-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_labelled [hPre_finite_and_labelled : Cert.Pre_finite_and_labelled.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_KernelIdeal_bounded_and_labelled [hPre_bounded_and_labelled : Cert.Pre_bounded_and_labelled.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_bounded_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_and_labelled [hPre_bounded_and_labelled : Cert.Pre_bounded_and_labelled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_bounded_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_UnmaskedIdeal (m : (ℓ : Loc Cert.UnmaskedIdeal.nD Cert.UnmaskedIdeal.τ Cert.UnmaskedIdeal.sig) → Buf (Elt Ideal) ℓ) : Prop :=
  True

def Pre_UnmaskedIdeal_finite_and_labelled [hPre_finite_and_labelled : Cert.Pre_finite_and_labelled.Facts] (m : (ℓ : Loc Cert.UnmaskedIdeal.nD Cert.UnmaskedIdeal.τ Cert.UnmaskedIdeal.sig) → Buf (Elt Ideal) ℓ) : Prop :=
  ∀ c : Dev Cert.UnmaskedIdeal.nD,
    (Cert.Pre_finite_and_labelled.fn (F := Ideal) (m ((c.tc : Thread Cert.UnmaskedIdeal.nD Cert.UnmaskedIdeal.τ).loc Cert.UnmaskedIdeal.main_arg0)) (m ((c.tc : Thread Cert.UnmaskedIdeal.nD Cert.UnmaskedIdeal.τ).loc Cert.UnmaskedIdeal.main_arg1))).1 = (fun _ => 1#1)
    ∧ (Cert.Pre_finite_and_labelled.fn (F := Ideal) (m ((c.tc : Thread Cert.UnmaskedIdeal.nD Cert.UnmaskedIdeal.τ).loc Cert.UnmaskedIdeal.main_arg0)) (m ((c.tc : Thread Cert.UnmaskedIdeal.nD Cert.UnmaskedIdeal.τ).loc Cert.UnmaskedIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_and_labelled [hKernelIdeal : Cert.KernelIdeal.Facts] [hPre_finite_and_labelled : Cert.Pre_finite_and_labelled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_labelled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded_and_labelled [hKernelIdeal : Cert.KernelIdeal.Facts] [hPre_bounded_and_labelled : Cert.Pre_bounded_and_labelled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_and_labelled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded_and_labelled [hReferenceIdeal : Cert.ReferenceIdeal.Facts] [hPre_bounded_and_labelled : Cert.Pre_bounded_and_labelled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_and_labelled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_UnmaskedIdeal [hUnmaskedIdeal : Cert.UnmaskedIdeal.Facts] : Prop :=
  ∀ (m : (ℓ : Loc Cert.UnmaskedIdeal.nD Cert.UnmaskedIdeal.τ Cert.UnmaskedIdeal.sig) → Buf (Elt Ideal) ℓ) (g : Dev Cert.UnmaskedIdeal.nD → PrngReg), Pre_UnmaskedIdeal m →
    θ_run (Cert.UnmaskedIdeal.defs (F := Ideal)) (onTc (τ := Cert.UnmaskedIdeal.τ) (Cert.UnmaskedIdeal.main (F := Ideal))) ⟨m, fun _ => 0, g⟩ (fun r => (∀ c : Dev Cert.UnmaskedIdeal.nD,
      r.2.mem ((c.tc : Thread Cert.UnmaskedIdeal.nD Cert.UnmaskedIdeal.τ).loc Cert.UnmaskedIdeal.main_arg0) = m ((c.tc : Thread Cert.UnmaskedIdeal.nD Cert.UnmaskedIdeal.τ).loc Cert.UnmaskedIdeal.main_arg0)
      ∧ r.2.mem ((c.tc : Thread Cert.UnmaskedIdeal.nD Cert.UnmaskedIdeal.τ).loc Cert.UnmaskedIdeal.main_arg1) = m ((c.tc : Thread Cert.UnmaskedIdeal.nD Cert.UnmaskedIdeal.τ).loc Cert.UnmaskedIdeal.main_arg1))
      ∧ r.2.sem = fun _ => 0)

def quiescent_UnmaskedIdeal_pre_finite_and_labelled [hUnmaskedIdeal : Cert.UnmaskedIdeal.Facts] [hPre_finite_and_labelled : Cert.Pre_finite_and_labelled.Facts] : Prop :=
  ∀ (m : (ℓ : Loc Cert.UnmaskedIdeal.nD Cert.UnmaskedIdeal.τ Cert.UnmaskedIdeal.sig) → Buf (Elt Ideal) ℓ) (g : Dev Cert.UnmaskedIdeal.nD → PrngReg), Pre_UnmaskedIdeal_finite_and_labelled m →
    θ_run (Cert.UnmaskedIdeal.defs (F := Ideal)) (onTc (τ := Cert.UnmaskedIdeal.τ) (Cert.UnmaskedIdeal.main (F := Ideal))) ⟨m, fun _ => 0, g⟩ (fun r => (∀ c : Dev Cert.UnmaskedIdeal.nD,
      r.2.mem ((c.tc : Thread Cert.UnmaskedIdeal.nD Cert.UnmaskedIdeal.τ).loc Cert.UnmaskedIdeal.main_arg0) = m ((c.tc : Thread Cert.UnmaskedIdeal.nD Cert.UnmaskedIdeal.τ).loc Cert.UnmaskedIdeal.main_arg0)
      ∧ r.2.mem ((c.tc : Thread Cert.UnmaskedIdeal.nD Cert.UnmaskedIdeal.τ).loc Cert.UnmaskedIdeal.main_arg1) = m ((c.tc : Thread Cert.UnmaskedIdeal.nD Cert.UnmaskedIdeal.τ).loc Cert.UnmaskedIdeal.main_arg1))
      ∧ r.2.sem = fun _ => 0)

def preserves_Kernel_KernelIdeal : Prop :=
  IdealRules.named_const.Statement Cert.KernelIdeal.κ "lowest" .f32 0xFF61B1E6#32 ⊥
  ∧ IdealRules.named_const.Statement Cert.KernelIdeal.κ "highest" .f32 0x7F61B1E6#32 ⊤

def algebraic_KernelIdeal_UnmaskedIdeal_pre_finite_and_labelled [hKernelIdeal : Cert.KernelIdeal.Facts] [hUnmaskedIdeal : Cert.UnmaskedIdeal.Facts] [hPre_finite_and_labelled : Cert.Pre_finite_and_labelled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnmaskedIdeal.nD Cert.UnmaskedIdeal.τ Cert.UnmaskedIdeal.sig) → Buf (Elt Ideal) ℓ) (g' : Dev Cert.UnmaskedIdeal.nD → PrngReg), Pre_KernelIdeal_finite_and_labelled m →
    (∀ c : Dev Cert.KernelIdeal.nD,
      m' ((c.tc : Thread Cert.UnmaskedIdeal.nD Cert.UnmaskedIdeal.τ).loc Cert.UnmaskedIdeal.main_arg0) = m ((c.tc : Thread Cert.KernelIdeal.nD Cert.KernelIdeal.τ).loc Cert.KernelIdeal.main_arg0)
      ∧ m' ((c.tc : Thread Cert.UnmaskedIdeal.nD Cert.UnmaskedIdeal.τ).loc Cert.UnmaskedIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.UnmaskedIdeal.defs (F := Ideal)) (onTc (τ := Cert.UnmaskedIdeal.τ) (Cert.UnmaskedIdeal.main (F := Ideal))) ⟨m', fun _ => 0, g'⟩ (fun r => ∀ c : Dev Cert.UnmaskedIdeal.nD,
          r.2.mem ((c.tc : Thread Cert.UnmaskedIdeal.nD Cert.UnmaskedIdeal.τ).loc Cert.UnmaskedIdeal.main_v45) = v0 c
          ∧ r.2.mem ((c.tc : Thread Cert.UnmaskedIdeal.nD Cert.UnmaskedIdeal.τ).loc Cert.UnmaskedIdeal.main_v41) = v1 c
          ∧ r.2.mem ((c.tc : Thread Cert.UnmaskedIdeal.nD Cert.UnmaskedIdeal.τ).loc Cert.UnmaskedIdeal.main_arg0) = m' ((c.tc : Thread Cert.UnmaskedIdeal.nD Cert.UnmaskedIdeal.τ).loc Cert.UnmaskedIdeal.main_arg0)
          ∧ r.2.mem ((c.tc : Thread Cert.UnmaskedIdeal.nD Cert.UnmaskedIdeal.τ).loc Cert.UnmaskedIdeal.main_arg1) = m' ((c.tc : Thread Cert.UnmaskedIdeal.nD Cert.UnmaskedIdeal.τ).loc Cert.UnmaskedIdeal.main_arg1))

def algebraic_KernelIdeal_ReferenceIdeal_pre_bounded_and_labelled [hKernelIdeal : Cert.KernelIdeal.Facts] [hReferenceIdeal : Cert.ReferenceIdeal.Facts] [hPre_bounded_and_labelled : Cert.Pre_bounded_and_labelled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_and_labelled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hUnmaskedIdeal : Cert.UnmaskedIdeal.Facts) (hPre_finite_and_labelled : Cert.Pre_finite_and_labelled.Facts) (hPre_bounded_and_labelled : Cert.Pre_bounded_and_labelled.Facts),
    quiescent_Kernel (hKernel := hKernel)
    ∧ quiescent_KernelIdeal (hKernelIdeal := hKernelIdeal)
    ∧ quiescent_KernelIdeal_pre_finite_and_labelled (hKernelIdeal := hKernelIdeal) (hPre_finite_and_labelled := hPre_finite_and_labelled)
    ∧ quiescent_KernelIdeal_pre_bounded_and_labelled (hKernelIdeal := hKernelIdeal) (hPre_bounded_and_labelled := hPre_bounded_and_labelled)
    ∧ quiescent_ReferenceIdeal (hReferenceIdeal := hReferenceIdeal)
    ∧ quiescent_ReferenceIdeal_pre_bounded_and_labelled (hReferenceIdeal := hReferenceIdeal) (hPre_bounded_and_labelled := hPre_bounded_and_labelled)
    ∧ quiescent_UnmaskedIdeal (hUnmaskedIdeal := hUnmaskedIdeal)
    ∧ quiescent_UnmaskedIdeal_pre_finite_and_labelled (hUnmaskedIdeal := hUnmaskedIdeal) (hPre_finite_and_labelled := hPre_finite_and_labelled)
    ∧ preserves_Kernel_KernelIdeal
    ∧ algebraic_KernelIdeal_UnmaskedIdeal_pre_finite_and_labelled (hKernelIdeal := hKernelIdeal) (hUnmaskedIdeal := hUnmaskedIdeal) (hPre_finite_and_labelled := hPre_finite_and_labelled)
    ∧ algebraic_KernelIdeal_ReferenceIdeal_pre_bounded_and_labelled (hKernelIdeal := hKernelIdeal) (hReferenceIdeal := hReferenceIdeal) (hPre_bounded_and_labelled := hPre_bounded_and_labelled)
-- ==== Pre_bounded_and_labelled.lean ====
abbrev S4096x16 : Shape := ⟨2, ![4096, 16]⟩
abbrev S4096 : Shape := ⟨1, ![4096]⟩
abbrev S_ : Shape := ⟨0, ![]⟩

class Facts : Prop where
  bcast_S_S4096x16 : S_.BroadcastsInDim S4096x16 (![] : Fin 0 → Fin S4096x16.rank)
  bcast_S_S4096 : S_.BroadcastsInDim S4096 (![] : Fin 0 → Fin S4096.rank)

variable [Facts]

def fn {F : FTy → Type} [FloatOps F] (main_arg0 : FVec F S4096x16 .f32) (main_arg1 : IVec S4096 32) : IVec S4096x16 1 × IVec S4096 1 :=
  let main_v0 : FVec F S4096x16 .f32 := Host.absf main_arg0
  let main_cst : FVec F S_ .f32 := constant S_ .f32 0x45770000#32
  let main_v1 : FVec F S4096x16 .f32 := broadcastInDim S4096x16 ![] bcast_S_S4096x16 main_cst
  let main_v2 : IVec S4096x16 1 := cmpf .ole main_v0 main_v1
  let main_c : IVec S_ 32 := constantI S_ 32 0#32
  let main_v3 : IVec S4096 32 := broadcastInDim S4096 ![] bcast_S_S4096 main_c
  let main_v4 : IVec S4096 1 := cmpi .sge main_arg1 main_v3
  let main_c_0 : IVec S_ 32 := constantI S_ 32 256#32
  let main_v5 : IVec S4096 32 := broadcastInDim S4096 ![] bcast_S_S4096 main_c_0
  let main_v6 : IVec S4096 1 := cmpi .slt main_arg1 main_v5
  let main_v7 : IVec S4096 1 := andi main_v4 main_v6
  (main_v2, main_v7)
-- ==== Pre_finite_and_labelled.lean ====
abbrev S4096x16 : Shape := ⟨2, ![4096, 16]⟩
abbrev S4096 : Shape := ⟨1, ![4096]⟩
abbrev S_ : Shape := ⟨0, ![]⟩

class Facts : Prop where
  bcast_S_S4096x16 : S_.BroadcastsInDim S4096x16 (![] : Fin 0 → Fin S4096x16.rank)
  bcast_S_S4096 : S_.BroadcastsInDim S4096 (![] : Fin 0 → Fin S4096.rank)

variable [Facts]

def fn {F : FTy → Type} [FloatOps F] (main_arg0 : FVec F S4096x16 .f32) (main_arg1 : IVec S4096 32) : IVec S4096x16 1 × IVec S4096 1 :=
  let main_v0 : FVec F S4096x16 .f32 := Host.absf main_arg0
  let main_cst : FVec F S_ .f32 := constant S_ .f32 0x7F800000#32
  let main_v1 : FVec F S4096x16 .f32 := broadcastInDim S4096x16 ![] bcast_S_S4096x16 main_cst
  let main_v2 : IVec S4096x16 1 := cmpf .olt main_v0 main_v1
  let main_c : IVec S_ 32 := constantI S_ 32 0#32
  let main_v3 : IVec S4096 32 := broadcastInDim S4096 ![] bcast_S_S4096 main_c
  let main_v4 : IVec S4096 1 := cmpi .sge main_arg1 main_v3
  let main_c_0 : IVec S_ 32 := constantI S_ 32 256#32
  let main_v5 : IVec S4096 32 := broadcastInDim S4096 ![] bcast_S_S4096 main_c_0
  let main_v6 : IVec S4096 1 := cmpi .slt main_arg1 main_v5
  let main_v7 : IVec S4096 1 := andi main_v4 main_v6
  (main_v2, main_v7)
-- ==== Kernel.lean ====
abbrev S4096x16 : Shape := ⟨2, ![4096, 16]⟩
abbrev S4096 : Shape := ⟨1, ![4096]⟩
abbrev S1x4096 : Shape := ⟨2, ![1, 4096]⟩
abbrev S1x1 : Shape := ⟨2, ![1, 1]⟩
abbrev S4096x18 : Shape := ⟨2, ![4096, 18]⟩
abbrev S4096x1 : Shape := ⟨2, ![4096, 1]⟩
abbrev S256x4096 : Shape := ⟨2, ![256, 4096]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S2048x16 : Shape := ⟨2, ![2048, 16]⟩
abbrev S2048 : Shape := ⟨1, ![2048]⟩
abbrev S2048x1 : Shape := ⟨2, ![2048, 1]⟩
abbrev S2048x18 : Shape := ⟨2, ![2048, 18]⟩
abbrev S1x4096x1 : Shape := ⟨3, ![1, 4096, 1]⟩
abbrev S2048x1024 : Shape := ⟨2, ![2048, 1024]⟩
abbrev S1024x18 : Shape := ⟨2, ![1024, 18]⟩
abbrev S1x1024 : Shape := ⟨2, ![1, 1024]⟩
abbrev S1x2048x1 : Shape := ⟨3, ![1, 2048, 1]⟩
abbrev S_ : Shape := ⟨0, ![]⟩

abbrev nBuf : Space → Nat
  | .hbm => 7
  | .vmem => 6
  | .smem => 2
  | _ => 0

abbrev bufTy : (tb : Table) → Fin (tcTables nBuf tb) → BufTy
  | .hbm, ⟨0, _⟩ => ⟨S4096x16, .f32⟩
  | .hbm, ⟨1, _⟩ => ⟨S4096, .i32⟩
  | .hbm, ⟨2, _⟩ => ⟨S1x4096, .i32⟩
  | .hbm, ⟨3, _⟩ => ⟨S1x1, .f32⟩
  | .hbm, ⟨4, _⟩ => ⟨S1x1, .i32⟩
  | .hbm, ⟨5, _⟩ => ⟨S_, .f32⟩
  | .hbm, ⟨6, _⟩ => ⟨S_, .i32⟩
  | .local _ .vmem, ⟨0, _⟩ => ⟨S4096x16, .f32⟩
  | .local _ .vmem, ⟨1, _⟩ => ⟨S1x4096, .i32⟩
  | .local _ .vmem, ⟨2, _⟩ => ⟨S4096x18, .f32⟩
  | .local _ .vmem, ⟨3, _⟩ => ⟨S1x4096, .f32⟩
  | .local _ .vmem, ⟨4, _⟩ => ⟨S4096x1, .f32⟩
  | .local _ .vmem, ⟨5, _⟩ => ⟨S4096x1, .f32⟩
  | .local _ .smem, ⟨0, _⟩ => ⟨S1x1, .f32⟩
  | .local _ .smem, ⟨1, _⟩ => ⟨S1x1, .i32⟩
  | _, _ => ⟨S4096x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let c2048_i32 : BitVec 32 := 2048#32
  let v3 : BitVec 32 := Scalar.muli arg0 c2048_i32
  let v4 : Index := Scalar.indexCast v3
  let c0 : Index := 0#32
  ![v4.toNat, 0]
def k0_off2 (i : grid0.Coords) : Fin 2 → Nat :=
  let arg0 : BitVec 32 := BitVec.ofNat 32 (i 0).val
  let c2048_i32_8 : BitVec 32 := 2048#32
  let v21 : BitVec 32 := Scalar.muli arg0 c2048_i32_8
  let v22 : Index := Scalar.indexCast v21
  let c0_9 : Index := 0#32
  ![v22.toNat, 0]
def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x4096 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "highest" => some ⊤
  | "lowest" => some ⊥
  | _ => none
-- ==== ReferenceIdeal.lean ====
abbrev S4096x16 : Shape := ⟨2, ![4096, 16]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S16x4096 : Shape := ⟨2, ![16, 4096]⟩

abbrev nBuf : Space → Nat
  | .hbm => 69
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S4096, .i32⟩
  | .hbm, ⟨2, _⟩ => ⟨S4096x16, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S16x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x1, .i32⟩
  | .hbm, ⟨20, _⟩ => ⟨S1x4096, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S4096, .i32⟩
  | .hbm, ⟨25, _⟩ => ⟨S4096x1, .i32⟩
  | .hbm, ⟨26, _⟩ => ⟨S1x4096, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S4096x4096, .i1⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096, .f32⟩
  | .hbm, ⟨44, _⟩ => ⟨S_, .i1⟩
  | .hbm, ⟨45, _⟩ => ⟨S4096, .i1⟩
  | .hbm, ⟨46, _⟩ => ⟨S_, .i1⟩
  | .hbm, ⟨47, _⟩ => ⟨S4096, .i1⟩
  | .hbm, ⟨48, _⟩ => ⟨S4096, .i1⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096, .i32⟩
  | .hbm, ⟨61, _⟩ => ⟨S_, .i32⟩
  | .hbm, ⟨62, _⟩ => ⟨S_, .i32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_c : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_call2_v0 : Ref sig .tc := ⟨.hbm, 57, rfl⟩
abbrev main_call2_v1 : Ref sig .tc := ⟨.hbm, 58, rfl⟩
abbrev main_v39 : Ref sig .tc := ⟨.hbm, 59, rfl⟩
abbrev main_v40 : Ref sig .tc := ⟨.hbm, 60, rfl⟩
abbrev main_c_10 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_cst_12 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]
-- ==== UnmaskedIdeal.lean ====
abbrev S4096x16 : Shape := ⟨2, ![4096, 16]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S16x4096 : Shape := ⟨2, ![16, 4096]⟩

abbrev nBuf : Space → Nat
  | .hbm => 69
  | .vmem => 0
  | .smem => 0
  | _ => 0

abbrev bufTy : (tb : Table) → Fin (tcTables nBuf tb) → BufTy
  | .hbm, ⟨0, _⟩ => ⟨S4096x16, .f32⟩
  | .hbm, ⟨1, _⟩ => ⟨S4096, .i32⟩
  | .hbm, ⟨2, _⟩ => ⟨S4096x16, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S16x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x1, .i32⟩
  | .hbm, ⟨20, _⟩ => ⟨S1x4096, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S4096, .i32⟩
  | .hbm, ⟨25, _⟩ => ⟨S4096x1, .i32⟩
  | .hbm, ⟨26, _⟩ => ⟨S1x4096, .i32⟩
  | .hbm, ⟨27, _⟩ => ⟨S4096x4096, .i32⟩
  | .hbm, ⟨28, _⟩ => ⟨S4096x4096, .i32⟩
  | .hbm, ⟨29, _⟩ => ⟨S4096x4096, .i1⟩
  | .hbm, ⟨30, _⟩ => ⟨S4096x4096, .i1⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S_, .f32⟩
  | .hbm, ⟨43, _⟩ => ⟨S4096, .f32⟩
  | .hbm, ⟨44, _⟩ => ⟨S_, .i1⟩
  | .hbm, ⟨45, _⟩ => ⟨S4096, .i1⟩
  | .hbm, ⟨46, _⟩ => ⟨S_, .i1⟩
  | .hbm, ⟨47, _⟩ => ⟨S4096, .i1⟩
  | .hbm, ⟨48, _⟩ => ⟨S4096, .i1⟩
  | .hbm, ⟨49, _⟩ => ⟨S4096, .f32⟩
  | .hbm, ⟨50, _⟩ => ⟨S_, .f32⟩
  | .hbm, ⟨51, _⟩ => ⟨S4096, .f32⟩
  | .hbm, ⟨52, _⟩ => ⟨S4096, .f32⟩
  | .hbm, ⟨53, _⟩ => ⟨S_, .f32⟩
  | .hbm, ⟨54, _⟩ => ⟨S4096, .f32⟩
  | .hbm, ⟨55, _⟩ => ⟨S4096, .f32⟩
  | .hbm, ⟨56, _⟩ => ⟨S_, .f32⟩
  | .hbm, ⟨57, _⟩ => ⟨S_, .f32⟩
  | .hbm, ⟨58, _⟩ => ⟨S4096, .f32⟩
  | .hbm, ⟨59, _⟩ => ⟨S4096, .f32⟩
  | .hbm, ⟨60, _⟩ => ⟨S4096, .i32⟩
  | .hbm, ⟨61, _⟩ => ⟨S_, .i32⟩
  | .hbm, ⟨62, _⟩ => ⟨S_, .i32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | _, _ => ⟨S4096x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_c : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_call2_v0 : Ref sig .tc := ⟨.hbm, 57, rfl⟩
abbrev main_call2_v1 : Ref sig .tc := ⟨.hbm, 58, rfl⟩
abbrev main_v39 : Ref sig .tc := ⟨.hbm, 59, rfl⟩
abbrev main_v40 : Ref sig .tc := ⟨.hbm, 60, rfl⟩
abbrev main_c_10 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_cst_12 : Ref sig .tc := ⟨.hbm, 66, rfl⟩
abbrev main_v44 : Ref sig .tc := ⟨.hbm, 67, rfl⟩
abbrev main_v45 : Ref sig .tc := ⟨.hbm, 68, rfl⟩

abbrev nD : Nat := 1
abbrev τ : Topo := Topo.v7x

variable {F : FTy → Type} [FloatOps F]
-- ==== Proof.Cases.lean ====
/- The two grid points of the idealized kernel: which of the body's conditionals each takes, the buffers the
   body is handed there, and the region's invariant spelt over the four scratch buffers. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The condition under which the body fills the scratch buffers. -/
abbrev Fills (i : grid0.Coords) : Prop := k0_cond1 i = 1#1

/-- The condition under which the body divides the accumulated loss. -/
abbrev Divides (i : grid0.Coords) : Prop :=
  (Scalar.cmpi .ne (Scalar.extui (Scalar.cmpi .eq (BitVec.ofNat 32 (i 0).val) 1#32)) 0#32) = 1#1

/-- A point's one coordinate is its number. -/
theorem coord_val (t : Fin cfg0.N) : (grid0.coords t 0).val = t.val := by
  have ht : t.val < 2 := Nat.lt_of_lt_of_eq t.isLt N_0
  have e0 : (grid0.coords t 0).val = t.val / 1 % 2 := Pipeline.Grid.coords_val t 0 (by decide) rfl
  omega

/-- The scratch buffers are filled at the first point. -/
theorem fills_first (t : Fin cfg0.N) (h : t.val = 0) : Fills (grid0.coords t) := by
  have e := coord_val t
  simp only [Fills, k0_cond1, e, h]
  word_cmp

/-- They are not filled at the second. -/
theorem not_fills_last (t : Fin cfg0.N) (h : t.val = 1) : ¬Fills (grid0.coords t) := by
  have e := coord_val t
  simp only [Fills, k0_cond1, e, h]
  word_cmp

/-- The loss is not divided at the first point. -/
theorem not_divides_first (t : Fin cfg0.N) (h : t.val = 0) : ¬Divides (grid0.coords t) := by
  have e := coord_val t
  simp only [Divides, e, h]
  word_cmp

/-- The loss is divided at the second. -/
theorem divides_last (t : Fin cfg0.N) (h : t.val = 1) : Divides (grid0.coords t) := by
  have e := coord_val t
  simp only [Divides, e, h]
  word_cmp

/-- The current staging memrefs at a point, and the scratch memrefs. -/
abbrev stgE (t : Fin cfg0.N) : Memref sig .tc .vmem S4096x16 .f32 := win0_0.stage (cfg0.slots t 0)
abbrev stgT (t : Fin cfg0.N) : Memref sig .tc .vmem S1x4096 .i32 := win0_1.stage (cfg0.slots t 1)
abbrev stgL (t : Fin cfg0.N) : Memref sig .tc .smem S1x1 .f32 := win0_2.stage (cfg0.slots t 2)
abbrev stgN (t : Fin cfg0.N) : Memref sig .tc .smem S1x1 .i32 := win0_3.stage (cfg0.slots t 3)
abbrev scrV : Memref sig .tc .vmem S4096x18 .f32 := Memref.whole cc0_scratch0
abbrev scrA : Memref sig .tc .vmem S1x4096 .f32 := Memref.whole cc0_scratch1
abbrev scrC : Memref sig .tc .vmem S4096x1 .f32 := Memref.whole cc0_scratch2
abbrev scrW : Memref sig .tc .vmem S4096x1 .f32 := Memref.whole cc0_scratch3

/-- What the launch hands the region: the four scratch buffers at anything, and the generator register. -/
theorem handed_eq (c : Dev nD) :
    (Pipeline.ΦA spec0 c : sProp 𝕄)
      = iprop(((∃ d, owns (c : Thread nD τ) scrV fullShare d) ∗ (∃ d, owns (c : Thread nD τ) scrA fullShare d)
          ∗ (∃ d, owns (c : Thread nD τ) scrC fullShare d) ∗ (∃ d, owns (c : Thread nD τ) scrW fullShare d))
        ∗ (∃ r, prngReg c r)) := by
  unfold Pipeline.ΦA; rw [scopedRest0_eq]; simp only [scrV, scrA, scrC, scrW, owns_whole]; try rfl

end Cert.KernelIdeal.Hand

end
-- ==== Proof.Contents.lean ====
/- What the idealized kernel leaves in its buffers, as functions of its two arguments: the four scratch buffers
   after the first point, the row count, and the loss after either point. -/
module

public import proofs.«01_k».proof.Proof.Cases
public import Idealize.ShloMosaic.Lib.Pointwise
public import Idealize.ShloMosaic.Lib.Pipeline.ValueKit.Basic

@[expose] public section

set_option maxRecDepth 16384

noncomputable section

namespace Cert.KernelIdeal.Hand

open Cert.KernelIdeal Cert.KernelIdeal.Gen
open Idealize.ShloMosaic

variable {F : FTy → Type} [FloatOps F] [Named F]

/-- The extended embeddings: each row's embedding, its squared norm, a one. -/
def vOf (X : Vec F S4096x16 .f32) : Vec F S4096x18 .f32 :=
  View.canon [⟨Rect.unit ![0, 17] S4096x1.size inb_S4096x18_S4096x1_0_17, k0_pay5⟩,
    ⟨Rect.unit ![0, 16] S4096x1.size inb_S4096x18_S4096x1_0_16, k0_pay4 X⟩,
    ⟨Rect.unit ![0, 0] S4096x16.size inb_S4096x18_S4096x16_0_0, k0_pay3 X⟩]

/-- The labels as floats, along a row. -/
def aOf (T : Vec F S1x4096 .i32) : Vec F S1x4096 .f32 := k0_pay7 T

/-- The labels as floats, along a column. -/
def cOf (T : Vec F S1x4096 .i32) : Vec F S4096x1 .f32 := k0_pay10 T

/-- One for a row that has both a positive and a negative, zero for any other. -/
def wOf (T : Vec F S1x4096 .i32) : Vec F S4096x1 .f32 := k0_pay13 (k0_pay11 T) k0_pay12

/-- The number of such rows. -/
def nOf (T : Vec F S1x4096 .i32) : Vec F S1x1 .i32 := fun _ => Scalar.fptosi 32 (k0_pay14 (k0_pay9 T))

section Rows

variable (e : Vec F S2048x16 .f32) (s : Vec F S4096x1 .f32) (t w : Vec F S2048x1 .f32)
  (v0 : Vec F S1024x18 .f32) (a0 : Vec F S1x1024 .f32) (v1 : Vec F S1024x18 .f32) (a1 : Vec F S1x1024 .f32)
  (v2 : Vec F S1024x18 .f32) (a2 : Vec F S1x1024 .f32) (v3 : Vec F S1024x18 .f32) (a3 : Vec F S1x1024 .f32)

/-- The greatest distance from each of a point's rows to a row of its label, from the point's rows `e`, all the
    squared norms `s`, the rows' labels `t`, and the four chunks of extended embeddings and of labels. -/
def farthest : FVec F S2048x1 .f32 :=
  k0_pay23 (k0_pay15 e) (k0_pay16 s) t (k0_pay19 e s t v0 a0) v1 a1 v2 a2 v3 a3

/-- The least distance from each of a point's rows to a row of another label. -/
def nearest : FVec F S2048x1 .f32 :=
  k0_pay24 (k0_pay15 e) (k0_pay16 s) t k0_pay17 (k0_pay18 e s t v0 a0) v1 a1 v2 a2 v3 a3

/-- The loss with a point's rows added, `w` telling the rows that count. -/
def addedOf (l : F .f32) : F .f32 :=
  k0_pay1 (farthest e s t v0 a0 v1 a1 v2 a2 v3 a3) (nearest e s t v0 a0 v1 a1 v2 a2 v3 a3) w l

end Rows

section Blocks

/-- The loss with the rows of point `i` added, each buffer's contents given by what is read at a rectangle of it. -/
def addedBy (i : grid0.Coords) (rX : (r : Rect S4096x16) → Vec F r.shape .f32) (rV : (r : Rect S4096x18) → Vec F r.shape .f32)
    (rA : (r : Rect S1x4096) → Vec F r.shape .f32) (rC rW : (r : Rect S4096x1) → Vec F r.shape .f32) (l : F .f32) : F .f32 :=
  addedOf (rX (Rect.unit (k0_off1 i) S2048x16.size (k0_off1_inb i)))
    (rV (Rect.unit ![0, 16] S4096x1.size inb_S4096x18_S4096x1_0_16))
    (rC (Rect.unit (k0_off2 i) S2048x1.size (k0_off2_inb i)))
    (rW (Rect.unit (k0_off2 i) S2048x1.size (k0_off2_inb i)))
    (rV (Rect.unit ![0, 0] S1024x18.size inb_S4096x18_S1024x18_0_0))
    (rA (Rect.unit ![0, 0] S1x1024.size inb_S1x4096_S1x1024_0_0))
    (rV (Rect.unit ![1024, 0] S1024x18.size inb_S4096x18_S1024x18_1024_0))
    (rA (Rect.unit ![0, 1024] S1x1024.size inb_S1x4096_S1x1024_0_1024))
    (rV (Rect.unit ![2048, 0] S1024x18.size inb_S4096x18_S1024x18_2048_0))
    (rA (Rect.unit ![0, 2048] S1x1024.size inb_S1x4096_S1x1024_0_2048))
    (rV (Rect.unit ![3072, 0] S1024x18.size inb_S4096x18_S1024x18_3072_0))
    (rA (Rect.unit ![0, 3072] S1x1024.size inb_S1x4096_S1x1024_0_3072)) l

/-- The same from the contents themselves. -/
def added (i : grid0.Coords) (X : Vec F S4096x16 .f32) (V : Vec F S4096x18 .f32) (A : Vec F S1x4096 .f32)
    (C W : Vec F S4096x1 .f32) (l : F .f32) : F .f32 :=
  addedBy i (View.ld X) (View.ld V) (View.ld A) (View.ld C) (View.ld W) l

end Blocks

/-- The loss after the first point. -/
def lossFirst (i : grid0.Coords) (X : Vec F S4096x16 .f32) (T : Vec F S1x4096 .i32) : Vec F S1x1 .f32 :=
  fun _ => added i X (vOf X) (aOf T) (cOf T) (wOf T) (Scalar.ofBits .f32 0x00000000#32)

/-- The loss after the last point, from what the point found: the loss so far, the count, the scratch buffers. -/
def lossLast (i : grid0.Coords) (X : Vec F S4096x16 .f32) (l : Vec F S1x1 .f32) (n : Vec F S1x1 .i32)
    (V : Vec F S4096x18 .f32) (A : Vec F S1x4096 .f32) (C W : Vec F S4096x1 .f32) : Vec F S1x1 .f32 :=
  fun _ => k0_pay2 (n (ix2 0 0)) (added i X V A C W (l (ix2 0 0)))

end Cert.KernelIdeal.Hand

end
-- ==== Proof.Loss.lean ====
/- Batch-hard triplet loss over the reals: distances, each row's farthest mate and nearest stranger, the rows that
   count, and the two ways the programs reach them, with a shift of the mates' distances and with masks. -/
module

public import Idealize.ShloMosaic.Lib.Pointwise

@[expose] public section

noncomputable section

namespace Cert.Triplet

open Finset

variable (x : Fin 4096 → Fin 16 → ℝ) (y : Fin 4096 → ℕ)

/-- The squared norm of a row. -/
def sqn (i : Fin 4096) : ℝ := ∑ k, x i k * x i k

/-- The squared distance between two rows, through their norms and their product. -/
def dist (i j : Fin 4096) : ℝ := sqn x i + sqn x j - 2 * ∑ k, x i k * x j k

theorem dist_eq (i j : Fin 4096) : dist x i j = ∑ k, (x i k - x j k) ^ 2 := by
  unfold dist sqn
  rw [Finset.mul_sum, ← Finset.sum_add_distrib, ← Finset.sum_sub_distrib]
  exact Finset.sum_congr rfl fun k _ => by ring

theorem dist_nonneg (i j : Fin 4096) : 0 ≤ dist x i j := by
  rw [dist_eq]; exact Finset.sum_nonneg fun k _ => sq_nonneg _

theorem dist_self (i : Fin 4096) : dist x i i = 0 := by
  rw [dist_eq]; simp

theorem sqn_nonneg (i : Fin 4096) : 0 ≤ sqn x i := Finset.sum_nonneg fun k _ => mul_self_nonneg _

/-- A squared distance is at most twice the sum of the squared norms. -/
theorem dist_le (i j : Fin 4096) : dist x i j ≤ 2 * sqn x i + 2 * sqn x j := by
  rw [dist_eq]; unfold sqn
  rw [Finset.mul_sum, Finset.mul_sum, ← Finset.sum_add_distrib]
  exact Finset.sum_le_sum fun k _ => by nlinarith [sq_nonneg (x i k + x j k)]

/-- The rows of a row's label. -/
def mates (i : Fin 4096) : Finset (Fin 4096) := univ.filter fun j => y j = y i

theorem mem_mates (i j : Fin 4096) : j ∈ mates y i ↔ y j = y i := by simp [mates]

/-- The rows that count: those with another row of their label and a row of another label. -/
def Counted (i : Fin 4096) : Prop := 2 ≤ (mates y i).card ∧ (mates y i).card ≤ 4095

instance : DecidablePred (Counted y) := fun i => by unfold Counted; infer_instance

/-- How many rows count. -/
def total : ℕ := (univ.filter fun i => Counted y i).card

/-- The greatest distance to a row of the same label. -/
def far (i : Fin 4096) : EReal := univ.sup fun j => if y j = y i then (dist x i j : EReal) else ⊥

/-- The least distance to a row of another label. -/
def near (i : Fin 4096) : EReal := univ.inf fun j => if y j = y i then ⊤ else (dist x i j : EReal)

/-- A row's part of the loss. -/
def hinge (i : Fin 4096) : EReal := if Counted y i then max (far x y i - near x y i + 1) 0 else 0

theorem exists_mate (i : Fin 4096) (h : 2 ≤ (mates y i).card) : ∃ j, y j = y i ∧ j ≠ i := by
  obtain ⟨j, hj, hne⟩ := Finset.exists_mem_ne (show 1 < (mates y i).card from h) i
  exact ⟨j, (mem_mates y i j).mp hj, hne⟩

theorem exists_stranger (i : Fin 4096) (h : (mates y i).card ≤ 4095) : ∃ j, y j ≠ y i := by
  by_contra hc
  push Not at hc
  have : mates y i = univ := Finset.eq_univ_iff_forall.mpr fun j => (mem_mates y i j).mpr (hc j)
  rw [this, Finset.card_univ, Fintype.card_fin] at h
  omega

/-- A row counts exactly when it has both. -/
theorem counted_iff (i : Fin 4096) : Counted y i ↔ (∃ j, y j = y i ∧ j ≠ i) ∧ ∃ j, y j ≠ y i := by
  refine ⟨fun h => ⟨exists_mate y i h.1, exists_stranger y i h.2⟩, fun ⟨⟨j, hj, hne⟩, k, hk⟩ => ⟨?_, ?_⟩⟩
  · exact Finset.one_lt_card.mpr ⟨j, (mem_mates y i j).mpr hj, i, (mem_mates y i i).mpr rfl, hne⟩
  · have := Finset.card_lt_univ_of_notMem (s := mates y i) (x := k) fun h => hk ((mem_mates y i k).mp h)
    rw [Fintype.card_fin] at this
    omega

/-- The farthest mate's distance is that of some mate, and bounds every mate's. -/
theorem far_attained (i : Fin 4096) : ∃ j, y j = y i ∧ far x y i = (dist x i j : EReal)
    ∧ ∀ k, y k = y i → dist x i k ≤ dist x i j := by
  obtain ⟨j, -, hj⟩ := Finset.exists_mem_eq_sup univ ⟨i, mem_univ i⟩
    fun j => if y j = y i then (dist x i j : EReal) else ⊥
  have hle : ∀ k, y k = y i → (dist x i k : EReal) ≤ far x y i := fun k hk => by
    have := Finset.le_sup (f := fun j => if y j = y i then (dist x i j : EReal) else ⊥) (mem_univ k)
    rwa [if_pos hk] at this
  have hf : far x y i = if y j = y i then (dist x i j : EReal) else ⊥ := hj
  by_cases hm : y j = y i
  · rw [if_pos hm] at hf
    exact ⟨j, hm, hf, fun k hk => EReal.coe_le_coe_iff.mp (hf ▸ hle k hk)⟩
  · rw [if_neg hm] at hf
    have := hle i rfl
    rw [hf, le_bot_iff] at this
    exact absurd this (EReal.coe_ne_bot _)

/-- The nearest stranger's distance is that of some stranger, if there is one, and bounds every stranger's. -/
theorem near_attained (i : Fin 4096) (h : ∃ j, y j ≠ y i) : ∃ j, y j ≠ y i ∧ near x y i = (dist x i j : EReal)
    ∧ ∀ k, y k ≠ y i → dist x i j ≤ dist x i k := by
  obtain ⟨j, -, hj⟩ := Finset.exists_mem_eq_inf univ ⟨i, mem_univ i⟩
    fun j => if y j = y i then ⊤ else (dist x i j : EReal)
  have hle : ∀ k, y k ≠ y i → near x y i ≤ (dist x i k : EReal) := fun k hk => by
    have := Finset.inf_le (f := fun j => if y j = y i then ⊤ else (dist x i j : EReal)) (mem_univ k)
    rwa [if_neg hk] at this
  have hf : near x y i = if y j = y i then ⊤ else (dist x i j : EReal) := hj
  by_cases hm : y j = y i
  · rw [if_pos hm] at hf
    obtain ⟨k, hk⟩ := h
    have := hle k hk
    rw [hf, top_le_iff] at this
    exact absurd this (EReal.coe_ne_top _)
  · rw [if_neg hm] at hf
    exact ⟨j, hm, hf, fun k hk => EReal.coe_le_coe_iff.mp (hf ▸ hle k hk)⟩

section Shifted

variable (C : ℝ) (i : Fin 4096) (hC : ∀ j, dist x i j < C)
include hC

/-- The distances with the mates' shifted beyond every other: their greatest, shifted back, is the farthest mate's. -/
theorem far_shifted : (univ.sup fun j => if y j = y i then (dist x i j : EReal) + C else (dist x i j : EReal)) - C
    = far x y i := by
  obtain ⟨j, hj, hf, hmax⟩ := far_attained x y i
  have h : (univ.sup fun j => if y j = y i then (dist x i j : EReal) + C else (dist x i j : EReal))
      = ((dist x i j + C : ℝ) : EReal) := by
    refine le_antisymm (Finset.sup_le fun k _ => ?_) ?_
    · split_ifs with hk
      · rw [← EReal.coe_add]; exact EReal.coe_le_coe_iff.mpr (by have := hmax k hk; linarith)
      · exact EReal.coe_le_coe_iff.mpr (by have := hC k; have := dist_nonneg x i j; linarith)
    · have := Finset.le_sup (f := fun j => if y j = y i then (dist x i j : EReal) + C else (dist x i j : EReal))
        (mem_univ j)
      rwa [if_pos hj, ← EReal.coe_add] at this
  rw [h, hf, ← EReal.coe_sub]
  congr 1; ring

/-- Their least is the nearest stranger's distance. -/
theorem near_shifted (h : ∃ j, y j ≠ y i) :
    (univ.inf fun j => if y j = y i then (dist x i j : EReal) + C else (dist x i j : EReal)) = near x y i := by
  obtain ⟨j, hj, hf, hmin⟩ := near_attained x y i h
  rw [hf]
  refine le_antisymm ?_ (Finset.le_inf fun k _ => ?_)
  · have := Finset.inf_le (f := fun j => if y j = y i then (dist x i j : EReal) + C else (dist x i j : EReal))
      (mem_univ j)
    rwa [if_neg hj] at this
  · split_ifs with hk
    · rw [← EReal.coe_add]
      exact EReal.coe_le_coe_iff.mpr (by have := hC j; have := dist_nonneg x i k; linarith)
    · exact EReal.coe_le_coe_iff.mpr (hmin k hk)

end Shifted

/-- With every row but the mates other than the row itself masked by something not positive, the greatest distance is
    the farthest mate's. -/
theorem far_masked (i : Fin 4096) (lo : EReal) (hlo : lo ≤ 0) (h : ∃ j, y j = y i ∧ j ≠ i) :
    (univ.sup fun j => if y j = y i ∧ j ≠ i then (dist x i j : EReal) else lo) = far x y i := by
  refine le_antisymm (Finset.sup_le fun k _ => ?_) (Finset.sup_le fun k _ => ?_)
  · obtain ⟨j, hj, hf, hmax⟩ := far_attained x y i
    rw [hf]
    split_ifs with hk
    · exact EReal.coe_le_coe_iff.mpr (hmax k hk.1)
    · exact hlo.trans (EReal.coe_nonneg.mpr (dist_nonneg x i j))
  · have hle : ∀ k, y k = y i → k ≠ i →
        (dist x i k : EReal) ≤ univ.sup fun j => if y j = y i ∧ j ≠ i then (dist x i j : EReal) else lo := fun k h1 h2 => by
      have := Finset.le_sup (f := fun j => if y j = y i ∧ j ≠ i then (dist x i j : EReal) else lo) (mem_univ k)
      rwa [if_pos ⟨h1, h2⟩] at this
    split_ifs with hk
    · by_cases hi : k = i
      · obtain ⟨j, hj, hne⟩ := h
        subst hi
        refine le_trans ?_ (hle j hj hne)
        rw [dist_self]; exact EReal.coe_le_coe_iff.mpr (dist_nonneg x k j)
      · exact hle k hk hi
    · exact bot_le

/-- With the mates masked by something no distance exceeds, the least distance is the nearest stranger's. -/
theorem near_masked (i : Fin 4096) (hi : EReal) (hhi : ∀ j, (dist x i j : EReal) ≤ hi) (h : ∃ j, y j ≠ y i) :
    (univ.inf fun j => if y j = y i then hi else (dist x i j : EReal)) = near x y i := by
  obtain ⟨j, hj, hf, hmin⟩ := near_attained x y i h
  rw [hf]
  refine le_antisymm ?_ (Finset.le_inf fun k _ => ?_)
  · have := Finset.inf_le (f := fun j => if y j = y i then hi else (dist x i j : EReal)) (mem_univ j)
    rwa [if_neg hj] at this
  · split_ifs with hk
    · exact hhi j
    · exact EReal.coe_le_coe_iff.mpr (hmin k hk)

/-- How many rows have a label. -/
def hist (l : ℕ) : ℕ := (univ.filter fun i => y i = l).card

theorem card_mates (i : Fin 4096) : (mates y i).card = hist y (y i) := rfl

/-- The rows that count, label by label: all the label's rows, when they are at least two and not everything. -/
theorem total_eq (hy : ∀ i, y i < 256) :
    total y = ∑ l : Fin 256, if 2 ≤ hist y l ∧ hist y l ≤ 4095 then hist y l else 0 := by
  unfold total
  rw [Finset.card_eq_sum_card_fiberwise (f := fun i => (⟨y i, hy i⟩ : Fin 256)) (t := univ) fun _ _ => mem_univ _]
  refine Finset.sum_congr rfl fun l _ => ?_
  rw [Finset.filter_filter]
  split_ifs with h
  · unfold hist
    congr 1
    ext i
    simp only [mem_filter, mem_univ, true_and, Fin.ext_iff]
    refine ⟨fun hi => hi.2, fun hi => ⟨?_, hi⟩⟩
    unfold Counted
    rw [card_mates, hi]; exact h
  · rw [Finset.card_eq_zero, Finset.filter_eq_empty_iff]
    rintro i - ⟨hi, hl⟩
    simp only [Fin.ext_iff] at hl
    unfold Counted at hi
    rw [card_mates, hl] at hi
    exact h hi

theorem total_le : total y ≤ 4096 := by
  unfold total
  exact (Finset.card_le_univ _).trans_eq (Fintype.card_fin _)

/-- The loss: the rows' parts added up, over the count or one. -/
def lossVal : EReal :=
  Idealize.ShloMosaic.Ideal.div (∑ i, hinge x y i) (max ((total y : ℝ) : EReal) 1)

/-- A sum over the rows is the sum over the first half of them and over the second. -/
theorem sum_halves (f : Fin 4096 → EReal) :
    ∑ r : Fin 2048, f ⟨0 + r.val, by omega⟩ + ∑ r : Fin 2048, f ⟨2048 + r.val, by omega⟩ = ∑ i, f i := by
  have h := Fin.sum_univ_add (a := 2048) (b := 2048) f
  refine Eq.trans ?_ h.symm
  refine congrArg₂ (· + ·) (Finset.sum_congr rfl fun r _ => congrArg f (Fin.ext ?_)) rfl
  exact Nat.zero_add _

end Cert.Triplet
-- ==== Proof.ReadLabels.lean ====
/- The kernel's label arithmetic at the extended reals: the labels, their one-hot rows, how many rows have each, which
   rows count and how many. -/
module

public import proofs.«01_k».proof.Proof.Contents
public import proofs.«01_k».proof.Proof.Loss

@[expose] public section

set_option maxRecDepth 16384

noncomputable section

namespace Cert.KernelIdeal.Hand

open Cert.KernelIdeal Cert.KernelIdeal.Gen Cert.Triplet
open Idealize.ShloMosaic

theorem bits_two : Ideal.ofBits .f32 0x40000000#32 = ((2 : ℝ) : EReal) := by
  simp [Ideal.ofBits, Ideal.ieee, -EReal.coe_mul]; norm_num

theorem bits_4095 : Ideal.ofBits .f32 0x457FF000#32 = ((4095 : ℝ) : EReal) := by
  simp [Ideal.ofBits, Ideal.ieee, -EReal.coe_mul]; norm_num

variable (T : Vec Ideal S1x4096 .i32) (y : Fin 4096 → ℕ)

/-- The word of a small number, read as a signed integer, is the number. -/
theorem toInt_small (n : ℕ) (h : n < 2 ^ 31) : (BitVec.ofNat 32 n).toInt = n := by
  rw [BitVec.toInt_ofNat']
  simp only [Nat.reducePow] at h ⊢
  rw [Int.bmod_eq_of_le] <;> omega

/-- A word known to be a small number. -/
theorem sitofp_small (n : ℕ) (h : n < 2 ^ 31) :
    FloatOps.sitofp (F := Ideal) .f32 (BitVec.ofNat 32 n) = ((n : ℝ) : EReal) := by
  show (((BitVec.ofNat 32 n).toInt : ℝ) : EReal) = _
  rw [toInt_small n h]; rfl

/-- A truth value as a float. -/
theorem sitofp_bool (b : Bool) :
    FloatOps.sitofp (F := Ideal) .f32 (BitVec.setWidth 32 (BitVec.ofBool b)) = if b then 1 else 0 := by
  show (((BitVec.setWidth 32 (BitVec.ofBool b)).toInt : ℝ) : EReal) = _
  cases b <;> simp

/-- A count is at least two, as the kernel compares it. -/
theorem two_le_iff (n : ℕ) : ((2 : ℝ) : EReal) ≤ ((n : ℝ) : EReal) ↔ 2 ≤ n := by
  rw [EReal.coe_le_coe_iff]; exact_mod_cast Iff.rfl

/-- A count is at most 4095, as the kernel compares it. -/
theorem le_4095_iff (n : ℕ) : ((n : ℝ) : EReal) ≤ ((4095 : ℝ) : EReal) ↔ n ≤ 4095 := by
  rw [EReal.coe_le_coe_iff]; exact_mod_cast Iff.rfl

/-- A column of counts compared with two and 4095: one where both hold. -/
theorem within_apply (p : FVec Ideal S4096x1 .f32) (i : Fin 4096) (n : ℕ) (hp : p (ix2 i 0) = ((n : ℝ) : EReal)) :
    k0_pay13 p k0_pay12 (ix2 i 0) = if 2 ≤ n ∧ n ≤ 4095 then 1 else 0 := by
  have h (q : FVec Ideal S4096x1 .f32) : k0_pay13 p q (ix2 i 0) = FloatOps.sitofp (F := Ideal) .f32 (BitVec.setWidth 32
      (IntOp.andi (BitVec.ofBool (decide (q (ix2 i 0) ≤ p (ix2 i 0))))
        (BitVec.ofBool (decide (p (ix2 i 0) ≤ Ideal.ofBits .f32 0x457FF000#32))))) := by
    pointwise [k0_pay13]
  have h2 : k0_pay12 (F := Ideal) (ix2 i 0) = Ideal.ofBits .f32 0x40000000#32 := by pointwise [k0_pay12]
  have hb (a b : Bool) : IntOp.andi (BitVec.ofBool a) (BitVec.ofBool b) = BitVec.ofBool (a && b) := by
    cases a <;> cases b <;> rfl
  rw [h, h2, hp, bits_two, bits_4095, hb, sitofp_bool]
  simp only [Bool.and_eq_true, decide_eq_true_eq, two_le_iff, le_4095_iff]

section
variable (hT : ∀ i, T (ix2 0 i) = BitVec.ofNat 32 (y i)) (hy : ∀ i, y i < 256)
include hT hy

/-- The labels along a row. -/
theorem aOf_apply (i : Fin 4096) : aOf T (ix2 0 i) = ((y i : ℝ) : EReal) := by
  have h : aOf T (ix2 0 i) = FloatOps.sitofp (F := Ideal) .f32 (T (ix2 0 i)) := by
    unfold aOf; pointwise [k0_pay7, k0_pay6]
  rw [h, hT, sitofp_small _ (by have := hy i; omega)]

/-- A row's one-hot column. -/
theorem onehot_apply (l : Fin 256) (i : Fin 4096) : k0_pay8 T (ix2 l i) = if y i = l then 1 else 0 := by
  have h : k0_pay8 T (ix2 l i) = FloatOps.sitofp .f32
      (BitVec.setWidth 32 (IntOp.cmpi .eq (BitVec.ofNat 32 l.val) (T (ix2 0 i)))) := by
    pointwise [k0_pay8, k0_pay6]
  have hyi := hy i
  have hl := l.isLt
  have e : (BitVec.ofNat 32 l.val = BitVec.ofNat 32 (y i)) ↔ y i = l := by
    rw [← BitVec.toNat_inj, BitVec.toNat_ofNat, BitVec.toNat_ofNat]; simp only [Nat.reducePow]; omega
  rw [h, hT]
  unfold IntOp.cmpi
  rw [sitofp_bool]
  simp only [beq_iff_eq, e]

/-- How many rows have a label. -/
theorem hist_apply (l : Fin 256) : k0_pay9 T (ix2 l 0) = ((hist y l : ℝ) : EReal) := by
  have h : k0_pay9 T (ix2 l 0) = ∑ i, k0_pay8 T (ix2 l i) := by pointwise [k0_pay9]
  rw [h]
  simp only [onehot_apply T y hT hy]
  exact (Finset.natCast_card_filter (R := EReal) (fun i => y i = l) Finset.univ).symm

/-- The labels along a column, picked out of the one-hot columns. -/
theorem cOf_apply (i : Fin 4096) : cOf T (ix2 i 0) = ((y i : ℝ) : EReal) := by
  have h : cOf T (ix2 i 0) = ∑ l : Fin 256, k0_pay8 T (ix2 l i) * FloatOps.sitofp .f32 (BitVec.ofNat 32 l.val) := by
    unfold cOf; pointwise [k0_pay10]
  rw [h, Finset.sum_eq_single (⟨y i, hy i⟩ : Fin 256)]
  · rw [onehot_apply T y hT hy, if_pos rfl, one_mul]
    exact sitofp_small (y i) (by have := hy i; omega)
  · intro l _ hl
    rw [onehot_apply T y hT hy, if_neg fun e => hl (Fin.ext e.symm), zero_mul]
  · exact fun h => absurd (Finset.mem_univ _) h

/-- How many rows have a row's label. -/
theorem mates_apply (i : Fin 4096) : k0_pay11 T (ix2 i 0) = (((mates y i).card : ℝ) : EReal) := by
  have h : k0_pay11 T (ix2 i 0) = ∑ l : Fin 256, k0_pay8 T (ix2 l i) * k0_pay9 T (ix2 l 0) := by
    pointwise [k0_pay11]
  rw [h, Finset.sum_eq_single (⟨y i, hy i⟩ : Fin 256)]
  · rw [onehot_apply T y hT hy, if_pos rfl, one_mul]
    exact hist_apply T y hT hy _
  · intro l _ hl
    rw [onehot_apply T y hT hy, if_neg fun e => hl (Fin.ext e.symm), zero_mul]
  · exact fun h => absurd (Finset.mem_univ _) h

/-- One for a row that counts, zero for any other. -/
theorem wOf_apply (i : Fin 4096) : wOf T (ix2 i 0) = if Counted y i then 1 else 0 := by
  exact within_apply (k0_pay11 T) i _ (mates_apply T y hT hy i)

end

end Cert.KernelIdeal.Hand
-- ==== Proof.ReadRows.lean ====
/- One grid point's arithmetic at the extended reals: from its rows, the squared norms, the labels and the four chunks of
   extended embeddings, each row's farthest mate and nearest stranger, and the sum of its rows' parts of the loss. -/
module

public import proofs.«01_k».proof.Proof.ReadLabels

@[expose] public section

set_option maxRecDepth 16384

noncomputable section

namespace Cert.KernelIdeal.Hand

open Cert.KernelIdeal Cert.KernelIdeal.Gen Cert.Triplet
open Idealize.ShloMosaic

theorem bits_neg_two : Ideal.ofBits .f32 0xC0000000#32 = ((-2 : ℝ) : EReal) := by
  simp [Ideal.ofBits, Ideal.ieee, -EReal.coe_mul, -EReal.coe_neg]; norm_num

theorem bits_four : Ideal.ofBits .f32 0x40800000#32 = ((4 : ℝ) : EReal) := by
  simp [Ideal.ofBits, Ideal.ieee, -EReal.coe_mul]; norm_num

theorem bits_lowest : Ideal.ofBits .f32 0xFF800000#32 = (⊥ : EReal) := by
  simp [Ideal.ofBits, Ideal.ieee]

theorem bits_highest : Ideal.ofBits .f32 0x7F800000#32 = (⊤ : EReal) := by
  simp [Ideal.ofBits, Ideal.ieee]

/-- A finite sum of reals is the same sum of extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable (x : Fin 4096 → Fin 16 → ℝ) (y : Fin 4096 → ℕ)

/-- The greatest squared norm. -/
def topSqn : ℝ := Finset.univ.sup' ⟨0, Finset.mem_univ _⟩ (sqn x)

theorem sqn_le_top (i : Fin 4096) : sqn x i ≤ topSqn x := Finset.le_sup' (sqn x) (Finset.mem_univ i)

/-- What the kernel adds to a mate's distance. -/
def shift : ℝ := 4 * topSqn x + 2 + 1

/-- The shift is beyond every distance. -/
theorem dist_lt_shift (i j : Fin 4096) : dist x i j < shift x := by
  have h := dist_le x i j
  have hi := sqn_le_top x i
  have hj := sqn_le_top x j
  unfold shift
  linarith

/-- The kernel's shift, from the squared norms. -/
theorem shift_apply (s : Vec Ideal S4096x1 .f32) (hs : ∀ j, s (ix2 j 0) = (sqn x j : EReal)) :
    k0_pay16 s = ((shift x : ℝ) : EReal) := by
  have h : k0_pay16 s = Ideal.ofBits .f32 0x40800000#32 * Finset.fold max (Ideal.ofBits .f32 0xFF800000#32)
        (fun p : Fin 4096 × Fin 1 => s (ix2 p.1 0)) Finset.univ + Ideal.ofBits .f32 0x40000000#32 + 1 := by
    pointwise [k0_pay16]
  have hm : Finset.fold max (⊥ : EReal) (fun p : Fin 4096 × Fin 1 => s (ix2 p.1 0)) Finset.univ
      = ((topSqn x : ℝ) : EReal) := by
    show Finset.univ.sup (fun p : Fin 4096 × Fin 1 => (s (ix2 p.1 0) : EReal)) = _
    refine le_antisymm (Finset.sup_le fun p _ => ?_) ?_
    · rw [hs]; exact EReal.coe_le_coe_iff.mpr (sqn_le_top x p.1)
    · obtain ⟨j, -, hj⟩ := Finset.exists_mem_eq_sup' ⟨0, Finset.mem_univ _⟩ (sqn x)
      have := Finset.le_sup (f := fun p : Fin 4096 × Fin 1 => (s (ix2 p.1 0) : EReal)) (Finset.mem_univ (j, 0))
      rw [hs] at this
      unfold topSqn
      rwa [hj]
  rw [h, bits_four, bits_lowest, hm, bits_two]
  unfold shift
  rw [EReal.coe_add, EReal.coe_add, EReal.coe_mul, EReal.coe_one]

/-- A row of the extended embeddings. -/
def ext (j : Fin 4096) (k : Fin 18) : EReal :=
  if h : k.val < 16 then (x j ⟨k.val, h⟩ : EReal) else if k.val < 17 then (sqn x j : EReal) else 1

/-- A row's factors: minus twice its embedding, a one, its squared norm. -/
theorem factor_apply (e : Vec Ideal S2048x16 .f32) (r : Fin 2048) (k : Fin 18) (R : EReal)
    (hR : (if h : k.val < 16 then Ideal.ofBits .f32 0xC0000000#32 * e (ix2 r ⟨k.val, h⟩)
      else if h : k.val - 16 < 1 then 1 else ∑ q : Fin 16, e (ix2 r q) * e (ix2 r q)) = R) :
    k0_pay15 e (ix2 r k) = R := by
  pointwise [k0_pay15]
  exact hR

section Point

variable (row : Fin 2048 → Fin 4096) (e : Vec Ideal S2048x16 .f32) (he : ∀ r k, e (ix2 r k) = (x (row r) k : EReal))
include he

/-- The product of a row's factors with an extended row is their squared distance. -/
theorem product_apply (col : Fin 1024 → Fin 4096) (v : Vec Ideal S1024x18 .f32) (hv : ∀ j k, v (ix2 j k) = ext x (col j) k)
    (r : Fin 2048) (j : Fin 1024) :
    ∑ k : Fin 18, k0_pay15 e (ix2 r k) * v (ix2 j k) = ((dist x (row r) (col j) : ℝ) : EReal) := by
  have hu (k : Fin 18) : k0_pay15 e (ix2 r k) = if h : k.val < 16 then ((-2 : ℝ) : EReal) * (x (row r) ⟨k.val, h⟩ : EReal)
      else if k.val < 17 then 1 else (sqn x (row r) : EReal) := by
    refine factor_apply e r k _ ?_
    rw [bits_neg_two]
    split_ifs with h1 h2 h3 h3
    · rw [he]
    · rfl
    · omega
    · omega
    · unfold sqn
      rw [coe_sum]
      exact Finset.sum_congr rfl fun q _ => by rw [he, EReal.coe_mul]
  simp only [hu, hv]
  rw [Fin.sum_univ_castSucc, Fin.sum_univ_castSucc]
  have h16 (k : Fin 16) : ((k.castSucc.castSucc : Fin 18).val < 16) := k.isLt
  simp only [ext, Fin.val_castSucc, Fin.val_last, Fin.is_lt, dite_true, Nat.lt_irrefl, dite_false,
    show ¬ (17 < 16) by decide, show (16 < 17) by decide, if_true, if_false, Fin.eta, one_mul, mul_one]
  have hs : ∑ k : Fin 16, ((-2 : ℝ) : EReal) * (x (row r) k : EReal) * (x (col j) k : EReal)
      = ((∑ k, -2 * x (row r) k * x (col j) k : ℝ) : EReal) := by
    rw [coe_sum]; exact Finset.sum_congr rfl fun k _ => by rw [EReal.coe_mul, EReal.coe_mul]
  rw [hs, ← EReal.coe_add, ← EReal.coe_add]
  congr 1
  unfold Cert.Triplet.dist
  rw [Finset.mul_sum, sub_eq_add_neg, ← Finset.sum_neg_distrib]
  have : ∑ k, -2 * x (row r) k * x (col j) k = ∑ k, -(2 * (x (row r) k * x (col j) k)) :=
    Finset.sum_congr rfl fun k _ => by ring
  rw [this]; ring

variable (s : Vec Ideal S4096x1 .f32) (hs : ∀ j, s (ix2 j 0) = (sqn x j : EReal))
  (t : Vec Ideal S2048x1 .f32) (ht : ∀ r, t (ix2 r 0) = ((y (row r) : ℝ) : EReal))
include hs ht

/-- A distance, a mate's shifted. -/
def shifted (i j : Fin 4096) : EReal :=
  if y j = y i then (dist x i j : EReal) + ((shift x : ℝ) : EReal) else (dist x i j : EReal)

/-- A chunk's entry: the distance of a row to one of the chunk's, a mate's shifted. -/
theorem chunk_apply (col : Fin 1024 → Fin 4096) (v : Vec Ideal S1024x18 .f32) (hv : ∀ j k, v (ix2 j k) = ext x (col j) k)
    (a : Vec Ideal S1x1024 .f32) (ha : ∀ j, a (ix2 0 j) = ((y (col j) : ℝ) : EReal)) (r : Fin 2048) (j : Fin 1024) :
    k0_pay20 (k0_pay15 e) (k0_pay16 s) t v a (ix2 r j) = shifted x y (row r) (col j) := by
  have h (u : FVec Ideal S2048x18 .f32) (q : Ideal .f32) : k0_pay20 u q t v a (ix2 r j)
      = if t (ix2 r 0) = a (ix2 0 j) then ∑ k, u (ix2 r k) * v (ix2 j k) + q else ∑ k, u (ix2 r k) * v (ix2 j k) := by
    pointwise [k0_pay20]
  rw [h, product_apply x row e he col v hv, shift_apply x s hs, ht, ha]
  unfold shifted
  have : (((y (row r) : ℝ) : EReal) = ((y (col j) : ℝ) : EReal)) ↔ y (col j) = y (row r) := by
    rw [EReal.coe_eq_coe_iff]; exact_mod_cast eq_comm
  simp only [this]

end Point

end Cert.KernelIdeal.Hand
-- ==== Proof.ReadPoint.lean ====
/- One grid point's rows at the extended reals: each row's farthest mate and nearest stranger from the four chunks, and
   the loss with the point's rows added. -/
module

public import proofs.«01_k».proof.Proof.ReadRows

@[expose] public section

set_option maxRecDepth 16384

noncomputable section

namespace Cert.KernelIdeal.Hand

open Cert.KernelIdeal Cert.KernelIdeal.Gen Cert.Triplet
open Idealize.ShloMosaic

/-- The row at a place in the 1024 rows from a given one. -/
def col (b : ℕ) (hb : b + 1024 ≤ 4096) (j : Fin 1024) : Fin 4096 := ⟨b + j.val, by omega⟩

/-- Every row lies in one of the four chunks. -/
theorem col_cases (i : Fin 4096) : ∃ j : Fin 1024, i = col 0 (by omega) j ∨ i = col 1024 (by omega) j
    ∨ i = col 2048 (by omega) j ∨ i = col 3072 (by omega) j := by
  refine ⟨⟨i.val % 1024, Nat.mod_lt _ (by omega)⟩, ?_⟩
  simp only [col, Fin.ext_iff]
  omega

/-- The greatest over the chunks' entries of one place, over all places, is the greatest over all rows. -/
theorem sup_chunks (f : Fin 4096 → EReal) :
    (Finset.univ.sup fun j : Fin 1024 => max (max (max (max ⊥ (f (col 0 (by omega) j))) (f (col 1024 (by omega) j)))
      (f (col 2048 (by omega) j))) (f (col 3072 (by omega) j))) = Finset.univ.sup f := by
  refine le_antisymm (Finset.sup_le fun j _ => ?_) (Finset.sup_le fun i _ => ?_)
  · exact max_le (max_le (max_le (max_le bot_le (Finset.le_sup (Finset.mem_univ _))) (Finset.le_sup (Finset.mem_univ _)))
      (Finset.le_sup (Finset.mem_univ _))) (Finset.le_sup (Finset.mem_univ _))
  · obtain ⟨j, h⟩ := col_cases i
    refine le_trans ?_ (Finset.le_sup (Finset.mem_univ j))
    simp only [le_max_iff]
    rcases h with rfl | rfl | rfl | rfl <;> simp

/-- The least likewise. -/
theorem inf_chunks (f : Fin 4096 → EReal) :
    (Finset.univ.inf fun j : Fin 1024 => min (min (min (min ⊤ (f (col 0 (by omega) j))) (f (col 1024 (by omega) j)))
      (f (col 2048 (by omega) j))) (f (col 3072 (by omega) j))) = Finset.univ.inf f := by
  refine le_antisymm (Finset.le_inf fun i _ => ?_) (Finset.le_inf fun j _ => ?_)
  · obtain ⟨j, h⟩ := col_cases i
    refine le_trans (Finset.inf_le (Finset.mem_univ j)) ?_
    simp only [min_le_iff]
    rcases h with rfl | rfl | rfl | rfl <;> simp
  · exact le_min (le_min (le_min (le_min le_top (Finset.inf_le (Finset.mem_univ _))) (Finset.inf_le (Finset.mem_univ _)))
      (Finset.inf_le (Finset.mem_univ _))) (Finset.inf_le (Finset.mem_univ _))

/-- The greatest along a row of a table. -/
theorem rowMax_apply (z : FVec Ideal S2048x1024 .f32) (r : Fin 2048) :
    shapeCast S2048x1 (multiReduction .maximumf [1] S2048 z 0xFF800000#32 reduces_S2048x1024_S2048 (.inl rfl) rfl)
      shapeCasts_S2048_S2048x1 (ix2 r 0) = Finset.univ.sup fun j : Fin 1024 => (z (ix2 r j) : EReal) := by
  pointwise
  rw [bits_lowest]
  rfl

/-- A column less a scalar. -/
theorem subf_col (z : FVec Ideal S2048x1 .f32) (q : Ideal .f32) (r : Fin 2048) :
    subf z (broadcast S2048x1 q) (ix2 r 0) = (z (ix2 r 0) - q : EReal) := rfl

/-- The greater of two tables, at a place. -/
theorem max_apply (z z' : FVec Ideal S2048x1024 .f32) (r : Fin 2048) (j : Fin 1024) :
    maximumf z z' (ix2 r j) = (max (z (ix2 r j)) (z' (ix2 r j)) : EReal) := rfl

section Rows

variable (e : Vec Ideal S2048x16 .f32) (s : Vec Ideal S4096x1 .f32) (t w : Vec Ideal S2048x1 .f32)
  (v0 : Vec Ideal S1024x18 .f32) (a0 : Vec Ideal S1x1024 .f32) (v1 : Vec Ideal S1024x18 .f32) (a1 : Vec Ideal S1x1024 .f32)
  (v2 : Vec Ideal S1024x18 .f32) (a2 : Vec Ideal S1x1024 .f32) (v3 : Vec Ideal S1024x18 .f32) (a3 : Vec Ideal S1x1024 .f32)

/-- A chunk's table of entries. -/
abbrev chunk (v : Vec Ideal S1024x18 .f32) (a : Vec Ideal S1x1024 .f32) : FVec Ideal S2048x1024 .f32 :=
  k0_pay20 (k0_pay15 e) (k0_pay16 s) t v a

/-- The greatest entry of a row, shifted back. -/
theorem farthest_apply (r : Fin 2048) : farthest e s t v0 a0 v1 a1 v2 a2 v3 a3 (ix2 r 0)
    = (Finset.univ.sup fun j : Fin 1024 => (max (max (max (max ⊥ (chunk e s t v0 a0 (ix2 r j))) (chunk e s t v1 a1 (ix2 r j)))
      (chunk e s t v2 a2 (ix2 r j))) (chunk e s t v3 a3 (ix2 r j)) : EReal)) - k0_pay16 s := by
  have h (p : FVec Ideal S2048x18 .f32) (q : Ideal .f32) (z : FVec Ideal S2048x1024 .f32) :
      k0_pay23 p q t z v1 a1 v2 a2 v3 a3 (ix2 r 0) = (Finset.univ.sup fun j : Fin 1024 =>
        (max (max (max (z (ix2 r j)) (k0_pay20 p q t v1 a1 (ix2 r j))) (k0_pay21 p q t v2 a2 (ix2 r j)))
          (k0_pay22 p q t v3 a3 (ix2 r j)) : EReal)) - q := by
    unfold k0_pay23
    refine (subf_col _ q r).trans ?_
    rw [rowMax_apply]
    simp only [max_apply]
  have hz (j : Fin 1024) : k0_pay19 e s t v0 a0 (ix2 r j) = max ⊥ (chunk e s t v0 a0 (ix2 r j)) := by
    unfold k0_pay19
    rw [max_apply]
    rfl
  unfold farthest
  rw [h]
  simp only [hz]
  rfl

/-- The least entry of a row. -/
theorem nearest_apply (r : Fin 2048) : nearest e s t v0 a0 v1 a1 v2 a2 v3 a3 (ix2 r 0)
    = (Finset.univ.inf fun j : Fin 1024 => (min (min (min (min ⊤ (chunk e s t v0 a0 (ix2 r j))) (chunk e s t v1 a1 (ix2 r j)))
      (chunk e s t v2 a2 (ix2 r j))) (chunk e s t v3 a3 (ix2 r j)) : EReal)) := by
  have h (p : FVec Ideal S2048x18 .f32) (q : Ideal .f32) (z z' : FVec Ideal S2048x1024 .f32) :
      k0_pay24 p q t z z' v1 a1 v2 a2 v3 a3 (ix2 r 0) = Finset.fold min (Ideal.ofBits FTy.f32 0x7F800000#32)
        (fun j => min (min (min (min (z (ix2 r j)) (z' (ix2 r j))) (k0_pay20 p q t v1 a1 (ix2 r j)))
          (k0_pay21 p q t v2 a2 (ix2 r j))) (k0_pay22 p q t v3 a3 (ix2 r j))) Finset.univ := by
    pointwise [k0_pay24]
  unfold nearest
  rw [h, bits_highest]
  rfl

/-- The loss with the point's rows added. -/
theorem addedOf_apply (l : EReal) : addedOf e s t w v0 a0 v1 a1 v2 a2 v3 a3 l
    = l + ∑ r : Fin 2048, w (ix2 r 0) * max (farthest e s t v0 a0 v1 a1 v2 a2 v3 a3 (ix2 r 0)
        - nearest e s t v0 a0 v1 a1 v2 a2 v3 a3 (ix2 r 0) + 1) 0 := by
  have h (p q u : FVec Ideal S2048x1 .f32) : k0_pay1 p q u l
      = l + ∑ r : Fin 2048, ∑ _k : Fin 1, u (ix2 r 0) * max (p (ix2 r 0) - q (ix2 r 0) + 1) 0 := by
    pointwise [k0_pay1]
  unfold addedOf
  rw [h]
  simp only [Finset.univ_unique, Finset.sum_singleton]

end Rows

section Point

variable (x : Fin 4096 → Fin 16 → ℝ) (y : Fin 4096 → ℕ)
  (row : Fin 2048 → Fin 4096) (e : Vec Ideal S2048x16 .f32) (he : ∀ r k, e (ix2 r k) = (x (row r) k : EReal))
  (s : Vec Ideal S4096x1 .f32) (hs : ∀ j, s (ix2 j 0) = (sqn x j : EReal))
  (t : Vec Ideal S2048x1 .f32) (ht : ∀ r, t (ix2 r 0) = ((y (row r) : ℝ) : EReal))
  (w : Vec Ideal S2048x1 .f32) (hw : ∀ r, w (ix2 r 0) = if Counted y (row r) then 1 else 0)
  (v : (b : ℕ) → b + 1024 ≤ 4096 → Vec Ideal S1024x18 .f32) (hv : ∀ b hb j k, v b hb (ix2 j k) = ext x (col b hb j) k)
  (a : (b : ℕ) → b + 1024 ≤ 4096 → Vec Ideal S1x1024 .f32)
  (ha : ∀ b hb j, a b hb (ix2 0 j) = ((y (col b hb j) : ℝ) : EReal))
include he hs ht hw hv ha

/-- A point adds its rows' parts of the loss. -/
theorem added_rows (l : EReal) :
    addedOf e s t w (v 0 (by omega)) (a 0 (by omega)) (v 1024 (by omega)) (a 1024 (by omega))
      (v 2048 (by omega)) (a 2048 (by omega)) (v 3072 (by omega)) (a 3072 (by omega)) l
    = l + ∑ r : Fin 2048, hinge x y (row r) := by
  rw [addedOf_apply]
  refine congrArg (l + ·) (Finset.sum_congr rfl fun r _ => ?_)
  rw [hw]
  unfold hinge
  split_ifs with hc
  · have hz (b : ℕ) (hb : b + 1024 ≤ 4096) (j : Fin 1024) :
        chunk e s t (v b hb) (a b hb) (ix2 r j) = shifted x y (row r) (col b hb j) :=
      chunk_apply x y row e he s hs t ht (col b hb) (v b hb) (hv b hb) (a b hb) (ha b hb) r j
    rw [one_mul, farthest_apply, nearest_apply]
    simp only [hz]
    rw [sup_chunks (fun j => shifted x y (row r) j), inf_chunks (fun j => shifted x y (row r) j), shift_apply x s hs]
    unfold shifted
    rw [far_shifted x y _ _ (dist_lt_shift x (row r)),
      near_shifted x y _ _ (dist_lt_shift x (row r)) (exists_stranger y _ hc.2)]
  · rw [zero_mul]

end Point

end Cert.KernelIdeal.Hand
-- ==== Proof.ReadCount.lean ====
/- The kernel's count at the extended reals: the number of rows that count. -/
module

public import proofs.«01_k».proof.Proof.ReadRows

@[expose] public section

set_option maxRecDepth 16384

noncomputable section

namespace Cert.KernelIdeal.Hand

open Cert.KernelIdeal Cert.KernelIdeal.Gen Cert.Triplet
open Idealize.ShloMosaic

/-- A column of counts, those within two and 4095 added up. -/
theorem counts_apply (p : FVec Ideal S256x1 .f32) (n : Fin 256 → ℕ) (hp : ∀ l, p (ix2 l 0) = ((n l : ℝ) : EReal)) :
    k0_pay14 p = (((∑ l, if 2 ≤ n l ∧ n l ≤ 4095 then n l else 0 : ℕ) : ℝ) : EReal) := by
  have h : k0_pay14 p = ∑ l : Fin 256, ∑ _k : Fin 1, Scalar.select
      (IntOp.andi (BitVec.ofBool (decide (Ideal.ofBits .f32 0x40000000#32 ≤ p (ix2 l 0))))
        (BitVec.ofBool (decide (p (ix2 l 0) ≤ Ideal.ofBits .f32 0x457FF000#32)))) (p (ix2 l 0)) 0 := by
    pointwise [k0_pay14]
  have e (l : Fin 256) : Scalar.select (IntOp.andi
      (BitVec.ofBool (decide (((2 : ℝ) : EReal) ≤ ((n l : ℝ) : EReal))))
      (BitVec.ofBool (decide (((n l : ℝ) : EReal) ≤ ((4095 : ℝ) : EReal))))) ((n l : ℝ) : EReal) 0
      = (((if 2 ≤ n l ∧ n l ≤ 4095 then n l else 0 : ℕ) : ℝ) : EReal) := by
    simp only [two_le_iff, le_4095_iff]
    by_cases h₁ : 2 ≤ n l <;> by_cases h₂ : n l ≤ 4095 <;> simp [h₁, h₂, Scalar.select, IntOp.andi]
  rw [h]
  simp only [hp, bits_two, bits_4095, e, Fin.sum_univ_one, Fin.isValue, Finset.univ_unique, Finset.sum_const,
    Finset.card_singleton, one_smul]
  rw [Nat.cast_sum, coe_sum]

/-- A small natural number as a float, read back as a word. -/
theorem fptosi_small (n : ℕ) (h : n ≤ 4096) :
    Scalar.fptosi (F := Ideal) (φ := .f32) 32 ((n : ℝ) : EReal) = BitVec.ofNat 32 n := by
  rw [Ideal.scalar_fptosi_def]
  unfold Ideal.fptosi
  rw [Ideal.toIntClamped_coe, if_pos (Nat.cast_nonneg n), Int.floor_natCast, min_eq_right, max_eq_right]
  · exact BitVec.ofInt_natCast 32 n
  · omega
  · norm_num; omega

variable (T : Vec Ideal S1x4096 .i32) (y : Fin 4096 → ℕ)

/-- The count the kernel returns. -/
theorem nOf_eq (hT : ∀ i, T (ix2 0 i) = BitVec.ofNat 32 (y i)) (hy : ∀ i, y i < 256) :
    nOf T = fun _ => BitVec.ofNat 32 (total y) := by
  funext j
  unfold nOf
  rw [counts_apply (k0_pay9 T) (fun l => hist y l) (hist_apply T y hT hy), ← total_eq y hy]
  exact fptosi_small _ (total_le y)

end Cert.KernelIdeal.Hand
-- ==== Proof.FirstRun.lean ====
/- The idealized kernel's body at the first grid point: what it leaves in every buffer. -/
module

public import proofs.«01_k».proof.Proof.Contents

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

set_option maxHeartbeats 1000000 in
/-- From its two arguments the first point leaves the loss of its rows, the count, and the four scratch buffers. -/
theorem first_run (c : Dev nD) (i : grid0.Coords) (arg1 : Memref sig .tc .vmem S4096x16 .f32) (harg1 : arg1.IsWhole)
    (arg2 : Memref sig .tc .vmem S1x4096 .i32) (harg2 : arg2.IsWhole) (arg3 : Memref sig .tc .smem S1x1 .f32)
    (harg3 : arg3.IsWhole) (arg4 : Memref sig .tc .smem S1x1 .i32) (harg4 : arg4.IsWhole)
    (arg5 : Memref sig .tc .vmem S4096x18 .f32) (harg5 : arg5.IsWhole) (arg6 : Memref sig .tc .vmem S1x4096 .f32)
    (harg6 : arg6.IsWhole) (arg7 : Memref sig .tc .vmem S4096x1 .f32) (harg7 : arg7.IsWhole)
    (arg8 : Memref sig .tc .vmem S4096x1 .f32) (harg8 : arg8.IsWhole) (hc0 : Fills i) (hc1 : ¬Divides i)
    (x0 : Vec F S4096x16 .f32) (x1 : Vec F S1x4096 .i32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1
            ∗ owns (c : Thread nD τ) arg3 fullShare (lossFirst i x0 x1) ∗ owns (c : Thread nD τ) arg4 fullShare (nOf x1)
            ∗ owns (c : Thread nD τ) arg5 fullShare (vOf x0) ∗ owns (c : Thread nD τ) arg6 fullShare (aOf x1)
            ∗ owns (c : Thread nD τ) arg7 fullShare (cOf x1) ∗ owns (c : Thread nD τ) arg8 fullShare (wOf x1)) -∗ K ⟨⟩))
      ⊢ wp frame (wpE (defs₀ (F := F)) Variants.none c none) E (cc0__triplet_tc_kernel i arg1 harg1 arg2 harg2 arg3
          harg3 arg4 harg4 arg5 harg5 arg6 harg6 arg7 harg7 arg8 harg8) K := by
  simp only [cc0__triplet_tc_kernel_eq_skeleton]; unfold cc0__triplet_tc_kernel_skel
  simp only [k0_part2_eq_skeleton, k0_part1_eq_skeleton, k0_part3_eq_skeleton]
  unfold owns
  iintro ⟨⟨%f0, %hf0, H0⟩, ⟨%f1, %hf1, H1⟩, ⟨%d2, %f2, -, H2⟩, ⟨%d3, %f3, -, H3⟩, ⟨%ds0, %fs0, -, HS0⟩,
    ⟨%ds1, %fs1, -, HS1⟩, ⟨%ds2, %fs2, -, HS2⟩, ⟨%ds3, %fs3, -, HS3⟩, Hk⟩
  obtain rfl := harg1.eq_unread hf0; obtain rfl := harg2.eq_unread hf1
  sl_exec (disch := first | sl_exact hc0 | sl_exact hc1)
  -- what the loads read
  have e0 : ∀ r : Rect S4096x16, View.readAt (Elt F) arg1.view r.toLoadRect (harg1.unread x0) = View.ld x0 r :=
    fun r => by rw [View.readAt_eq_ld, hf0]
  have e0' : View.readAt (Elt F) arg1.view (Rect.unit ![0, 0] S4096x16.size inb_S4096x16_S4096x16_0_0).toLoadRect
      (harg1.unread x0) = x0 := by
    rw [e0]; exact View.ld_unit_lit _ _ (by decide)
  have e1 : View.readAt (Elt F) arg2.view (Rect.unit ![0, 0] S1x4096.size inb_S1x4096_S1x4096_0_0).toLoadRect
      (harg2.unread x1) = x1 := by
    rw [View.readAt_eq_ld, hf1]; exact View.ld_unit_lit _ _ (by decide)
  -- what the stores leave in the scratch buffers
  have eV : View.canon (first_run.sl.HS0_3 c arg1 harg1 x0) = vOf x0 := by
    refine (show _ = vOf (View.readAt (Elt F) arg1.view (Rect.unit ![0, 0] S4096x16.size
      inb_S4096x16_S4096x16_0_0).toLoadRect (harg1.unread x0)) from rfl).trans ?_
    rw [e0']
  have eA : View.canon (first_run.sl.HS1_1 c arg2 harg2 x1) = aOf x1 := by
    refine (View.canon_cons_unit_lit _ _ [] (by decide)).trans ?_
    refine (show _ = aOf (View.readAt (Elt F) arg2.view (Rect.unit ![0, 0] S1x4096.size
      inb_S1x4096_S1x4096_0_0).toLoadRect (harg2.unread x1)) from rfl).trans ?_
    rw [e1]
  have eC : View.canon (first_run.sl.HS2_1 c arg2 harg2 x1) = cOf x1 := by
    refine (View.canon_cons_unit_lit _ _ [] (by decide)).trans ?_
    refine (show _ = cOf (View.readAt (Elt F) arg2.view (Rect.unit ![0, 0] S1x4096.size
      inb_S1x4096_S1x4096_0_0).toLoadRect (harg2.unread x1)) from rfl).trans ?_
    rw [e1]
  have eW : View.canon (first_run.sl.HS3_1 c arg2 harg2 x1) = wOf x1 := by
    refine (View.canon_cons_unit_lit _ _ [] (by decide)).trans ?_
    refine (show _ = wOf (View.readAt (Elt F) arg2.view (Rect.unit ![0, 0] S1x4096.size
      inb_S1x4096_S1x4096_0_0).toLoadRect (harg2.unread x1)) from rfl).trans ?_
    rw [e1]
  have eN : (fun _ => first_run.sl.v150 c arg2 harg2 x1 : Vec F S1x1 .i32) = nOf x1 := by
    refine (show _ = nOf (View.readAt (Elt F) arg2.view (Rect.unit ![0, 0] S1x4096.size
      inb_S1x4096_S1x4096_0_0).toLoadRect (harg2.unread x1)) from rfl).trans ?_
    rw [e1]
  have eL : (fun _ => k0_pay1 (first_run.sl.r_7 c i arg1 harg1 arg2 harg2 arg5 arg6 arg7 x0 x1)
      (first_run.sl.r_8 c i arg1 harg1 arg2 harg2 arg5 arg6 arg7 x0 x1)
      (first_run.sl.v78 c i arg2 harg2 arg8 x1) first_run.sl.cst_69 : Vec F S1x1 .f32) = lossFirst i x0 x1 := by
    have rX : (fun r : Rect S4096x16 => View.readAt (Elt F) arg1.view r.toLoadRect (harg1.unread x0)) = View.ld x0 := funext e0
    have rV : (fun r : Rect S4096x18 => arg5.view.readCov (first_run.sl.HS0_3 c arg1 harg1 x0) r.toLoadRect) = View.ld (vOf x0) :=
      funext fun r => by rw [View.readCov_eq_canon', eV]
    have rA : (fun r : Rect S1x4096 => arg6.view.readCov (first_run.sl.HS1_1 c arg2 harg2 x1) r.toLoadRect) = View.ld (aOf x1) :=
      funext fun r => by rw [View.readCov_eq_canon', eA]
    have rC : (fun r : Rect S4096x1 => arg7.view.readCov (first_run.sl.HS2_1 c arg2 harg2 x1) r.toLoadRect) = View.ld (cOf x1) :=
      funext fun r => by rw [View.readCov_eq_canon', eC]
    have rW : (fun r : Rect S4096x1 => arg8.view.readCov (first_run.sl.HS3_1 c arg2 harg2 x1) r.toLoadRect) = View.ld (wOf x1) :=
      funext fun r => by rw [View.readCov_eq_canon', eW]
    refine (show _ = fun _ => addedBy i
      (fun r => View.readAt (Elt F) arg1.view r.toLoadRect (harg1.unread x0))
      (fun r => arg5.view.readCov (first_run.sl.HS0_3 c arg1 harg1 x0) r.toLoadRect)
      (fun r => arg6.view.readCov (first_run.sl.HS1_1 c arg2 harg2 x1) r.toLoadRect)
      (fun r => arg7.view.readCov (first_run.sl.HS2_1 c arg2 harg2 x1) r.toLoadRect)
      (fun r => arg8.view.readCov (first_run.sl.HS3_1 c arg2 harg2 x1) r.toLoadRect)
      (Scalar.ofBits .f32 0x00000000#32) from rfl).trans ?_
    rw [rX, rV, rA, rC, rW]
    rfl
  sl_step
  iapply Hk
  isplitl [H0]
  · iexists harg1.unread x0; isplitr
    · ipureintro; exact hf0
    · iexact H0
  isplitl [H1]
  · iexists harg2.unread x1; isplitr
    · ipureintro; exact hf1
    · iexact H1
  isplitl [H2]
  · iexists _; isplitr; swap; · iexact H2
    ipureintro
    rw [View.read_writes_eq_canon _ _ _ (View.cover_of_tiledL _ S1x1.size (by sl_kernel_rfl))]
    exact (View.canon_cons_unit_lit _ _ _ (by decide)).trans eL
  isplitl [H3]
  · iexists _; isplitr; swap; · iexact H3
    ipureintro
    rw [View.read_writes_eq_canon _ _ _ (View.cover_of_tiledL _ S1x1.size (by sl_kernel_rfl))]
    exact (View.canon_cons_unit_lit _ _ _ (by decide)).trans eN
  isplitl [HS0]
  · iexists _; isplitr; swap; · iexact HS0
    ipureintro
    rw [View.read_writes_eq_canon _ _ _ (View.cover_of_tiledBy _ ![4096, 1] (by sl_kernel_rfl))]
    exact eV
  isplitl [HS1]
  · iexists _; isplitr; swap; · iexact HS1
    ipureintro
    rw [View.read_writes_eq_canon _ _ _ (View.cover_of_tiledL _ S1x4096.size (by sl_kernel_rfl))]
    exact eA
  isplitl [HS2]
  · iexists _; isplitr; swap; · iexact HS2
    ipureintro
    rw [View.read_writes_junk_eq_canon]
    exact eC
  · iexists _; isplitr; swap; · iexact HS3
    ipureintro
    rw [View.read_writes_junk_eq_canon]
    exact eW

end Cert.KernelIdeal.Hand

end
-- ==== Proof.LastRun.lean ====
/- The idealized kernel's body at the last grid point: what it makes of the loss it finds. -/
module

public import proofs.«01_k».proof.Proof.Contents

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A one-by-one shape has one index. -/
theorem one_idx (x : S1x1.Idx) : x = ix2 0 0 := by
  funext a
  match a with
  | ⟨0, _⟩ => exact Subsingleton.elim (α := Fin 1) _ _
  | ⟨1, _⟩ => exact Subsingleton.elim (α := Fin 1) _ _

set_option maxHeartbeats 1000000 in
/-- The last point adds its rows to the loss it finds and divides by the count; it leaves all else as it was. -/
theorem last_run (c : Dev nD) (i : grid0.Coords) (arg1 : Memref sig .tc .vmem S4096x16 .f32) (harg1 : arg1.IsWhole)
    (arg2 : Memref sig .tc .vmem S1x4096 .i32) (harg2 : arg2.IsWhole) (arg3 : Memref sig .tc .smem S1x1 .f32)
    (harg3 : arg3.IsWhole) (arg4 : Memref sig .tc .smem S1x1 .i32) (harg4 : arg4.IsWhole)
    (arg5 : Memref sig .tc .vmem S4096x18 .f32) (harg5 : arg5.IsWhole) (arg6 : Memref sig .tc .vmem S1x4096 .f32)
    (harg6 : arg6.IsWhole) (arg7 : Memref sig .tc .vmem S4096x1 .f32) (harg7 : arg7.IsWhole)
    (arg8 : Memref sig .tc .vmem S4096x1 .f32) (harg8 : arg8.IsWhole) (hc0 : ¬Fills i) (hc1 : Divides i)
    (x0 : Vec F S4096x16 .f32) (x1 : Vec F S1x4096 .i32) (l : Vec F S1x1 .f32) (n : Vec F S1x1 .i32)
    (V : Vec F S4096x18 .f32) (A : Vec F S1x4096 .f32) (C W : Vec F S4096x1 .f32) (E : Set ℕ) (K : PUnit → sProp 𝕄) :
    iprop(owns (c : Thread nD τ) arg1 fullShare x0 ∗ owns (c : Thread nD τ) arg2 fullShare x1
        ∗ owns (c : Thread nD τ) arg3 fullShare l ∗ owns (c : Thread nD τ) arg4 fullShare n
        ∗ owns (c : Thread nD τ) arg5 fullShare V ∗ owns (c : Thread nD τ) arg6 fullShare A
        ∗ owns (c : Thread nD τ) arg7 fullShare C ∗ owns (c : Thread nD τ) arg8 fullShare W
        ∗ (iprop(owns (c : Thread nD τ) arg1 fullShare x0 ∗ owns (c : Thread nD τ) arg2 fullShare x1
            ∗ owns (c : Thread nD τ) arg3 fullShare (lossLast i x0 l n V A C W) ∗ owns (c : Thread nD τ) arg4 fullShare n
            ∗ owns (c : Thread nD τ) arg5 fullShare V ∗ owns (c : Thread nD τ) arg6 fullShare A
            ∗ owns (c : Thread nD τ) arg7 fullShare C ∗ owns (c : Thread nD τ) arg8 fullShare W) -∗ K ⟨⟩))
      ⊢ wp frame (wpE (defs₀ (F := F)) Variants.none c none) E (cc0__triplet_tc_kernel i arg1 harg1 arg2 harg2 arg3
          harg3 arg4 harg4 arg5 harg5 arg6 harg6 arg7 harg7 arg8 harg8) K := by
  simp only [cc0__triplet_tc_kernel_eq_skeleton]; unfold cc0__triplet_tc_kernel_skel
  simp only [k0_part2_eq_skeleton, k0_part1_eq_skeleton, k0_part3_eq_skeleton]
  unfold owns
  iintro ⟨⟨%f0, %hf0, H0⟩, ⟨%f1, %hf1, H1⟩, ⟨%f2, %hf2, H2⟩, ⟨%f3, %hf3, H3⟩, ⟨%fs0, %hfs0, HS0⟩,
    ⟨%fs1, %hfs1, HS1⟩, ⟨%fs2, %hfs2, HS2⟩, ⟨%fs3, %hfs3, HS3⟩, Hk⟩
  obtain rfl := harg1.eq_unread hf0; obtain rfl := harg2.eq_unread hf1
  obtain rfl := harg3.eq_unread hf2; obtain rfl := harg4.eq_unread hf3
  obtain rfl := harg5.eq_unread hfs0; obtain rfl := harg6.eq_unread hfs1
  obtain rfl := harg7.eq_unread hfs2; obtain rfl := harg8.eq_unread hfs3
  sl_exec (disch := first | sl_exact hc0 | sl_exact hc1)
  -- what the loads read
  have rX : (fun r : Rect S4096x16 => View.readAt (Elt F) arg1.view r.toLoadRect (harg1.unread x0)) = View.ld x0 :=
    funext fun r => by rw [View.readAt_eq_ld, hf0]
  have rV : (fun r : Rect S4096x18 => View.readAt (Elt F) arg5.view r.toLoadRect (harg5.unread V)) = View.ld V :=
    funext fun r => by rw [View.readAt_eq_ld, hfs0]
  have rA : (fun r : Rect S1x4096 => View.readAt (Elt F) arg6.view r.toLoadRect (harg6.unread A)) = View.ld A :=
    funext fun r => by rw [View.readAt_eq_ld, hfs1]
  have rC : (fun r : Rect S4096x1 => View.readAt (Elt F) arg7.view r.toLoadRect (harg7.unread C)) = View.ld C :=
    funext fun r => by rw [View.readAt_eq_ld, hfs2]
  have rW : (fun r : Rect S4096x1 => View.readAt (Elt F) arg8.view r.toLoadRect (harg8.unread W)) = View.ld W :=
    funext fun r => by rw [View.readAt_eq_ld, hfs3]
  have r7 : last_run.sl.r_7 c arg3 harg3 l = l (ix2 0 0) := by
    refine (congrFun hf2 _).trans (congrArg l ?_)
    exact one_idx _
  have r8 : last_run.sl.r_8 c arg4 harg4 n = n (ix2 0 0) := by
    refine (congrFun hf3 _).trans (congrArg n ?_)
    exact one_idx _
  have r9 : last_run.sl.r_9 c i arg1 harg1 arg3 harg3 arg5 harg5 arg6 harg6 arg7 harg7 arg8 harg8 x0 l V A C W
      = added i x0 V A C W (l (ix2 0 0)) := by
    refine (show _ = addedBy i
      (fun r => View.readAt (Elt F) arg1.view r.toLoadRect (harg1.unread x0))
      (fun r => View.readAt (Elt F) arg5.view r.toLoadRect (harg5.unread V))
      (fun r => View.readAt (Elt F) arg6.view r.toLoadRect (harg6.unread A))
      (fun r => View.readAt (Elt F) arg7.view r.toLoadRect (harg7.unread C))
      (fun r => View.readAt (Elt F) arg8.view r.toLoadRect (harg8.unread W))
      (last_run.sl.r_7 c arg3 harg3 l) from rfl).trans ?_
    rw [rX, rV, rA, rC, rW, r7]
    rfl
  have eL : (fun _ => k0_pay2 (last_run.sl.r_8 c arg4 harg4 n) (last_run.sl.r_9 c i arg1 harg1 arg3 harg3 arg5 harg5 arg6
      harg6 arg7 harg7 arg8 harg8 x0 l V A C W) : Vec F S1x1 .f32) = lossLast i x0 l n V A C W := by
    rw [r8, r9]
    rfl
  sl_step
  iapply Hk
  isplitl [H0]
  · iexists harg1.unread x0; isplitr
    · ipureintro; exact hf0
    · iexact H0
  isplitl [H1]
  · iexists harg2.unread x1; isplitr
    · ipureintro; exact hf1
    · iexact H1
  isplitl [H2]
  · iexists _; isplitr; swap; · iexact H2
    ipureintro
    rw [View.read_writes_eq_canon _ _ _ (View.cover_of_tiledL _ S1x1.size (by sl_kernel_rfl))]
    exact (View.canon_cons_unit_lit _ _ _ (by decide)).trans eL
  isplitl [H3]
  · iexists harg4.unread n; isplitr
    · ipureintro; exact hf3
    · iexact H3
  isplitl [HS0]
  · iexists harg5.unread V; isplitr
    · ipureintro; exact hfs0
    · iexact HS0
  isplitl [HS1]
  · iexists harg6.unread A; isplitr
    · ipureintro; exact hfs1
    · iexact HS1
  isplitl [HS2]
  · iexists harg7.unread C; isplitr
    · ipureintro; exact hfs2
    · iexact HS2
  · iexists harg8.unread W; isplitr
    · ipureintro; exact hfs3
    · iexact HS3

end Cert.KernelIdeal.Hand

end
-- ==== Proof.Region.lean ====
/- The idealized kernel's region: what its two points leave in the windows' buffers and in the scratch buffers,
   and that the body keeps to it. -/
module

public import proofs.«01_k».proof.Proof.FirstRun
public import proofs.«01_k».proof.Proof.LastRun
public import Idealize.ShloMosaic.Lib.Claim
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The region's first point. -/
def p0 : Fin cfg0.N := ⟨0, Nat.lt_of_lt_of_eq Nat.two_pos N_0.symm⟩

theorem p0_val : p0.val = 0 := rfl

/-- The embeddings and the labels as a point is handed them. -/
abbrev embAt (c : Dev nD) (t : Fin cfg0.N) : Vec F S4096x16 .f32 := iblk m c 0 t
abbrev labAt (c : Dev nD) (t : Fin cfg0.N) : Vec F S1x4096 .i32 := iblk m c 1 t

/-- The loss after a point. -/
def lossAt (c : Dev nD) (t : Fin cfg0.N) : Vec F S1x1 .f32 :=
  if t.val = 0 then lossFirst (grid0.coords t) (embAt m c t) (labAt m c t)
  else lossLast (grid0.coords t) (embAt m c t) (lossFirst (grid0.coords p0) (embAt m c p0) (labAt m c p0))
    (nOf (labAt m c p0)) (vOf (embAt m c p0)) (aOf (labAt m c p0)) (cOf (labAt m c p0)) (wOf (labAt m c p0))

/-- The scratch buffers once filled, and the generator register. -/
def filled (c : Dev nD) : sProp 𝕄 :=
  iprop((owns (c : Thread nD τ) scrV fullShare (vOf (embAt m c p0)) ∗ owns (c : Thread nD τ) scrA fullShare (aOf (labAt m c p0))
      ∗ owns (c : Thread nD τ) scrC fullShare (cOf (labAt m c p0)) ∗ owns (c : Thread nD τ) scrW fullShare (wOf (labAt m c p0)))
    ∗ (∃ r, prngReg c r))

/-- The region's invariant before a point: nothing known before the first, the scratch buffers filled after it. -/
def inv (c : Dev nD) : (n : ℕ) → n ≤ cfg0.N → sProp 𝕄
  | 0, _ => Pipeline.ΦA spec0 c
  | _ + 1, _ => filled m c

/-- The region's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => lossAt m c t
    | ⟨3, _⟩ => nOf (labAt m c p0)
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; exact Pipeline.Dat.Φ_castSucc (inv m c) t

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) : inv m c n h = filled m c := by
  cases n with
  | zero => exact absurd rfl hz
  | succ n => rfl

theorem after_emb (c : Dev nD) (t : Fin cfg0.N) : (dats m 0 c).after 0 t = iblk m c 0 t := by dsimp only [dats]
theorem after_lab (c : Dev nD) (t : Fin cfg0.N) : (dats m 0 c).after 1 t = iblk m c 1 t := by dsimp only [dats]
theorem after_loss (c : Dev nD) (t : Fin cfg0.N) : (dats m 0 c).after 2 t = lossAt m c t := by dsimp only [dats]
theorem after_cnt (c : Dev nD) (t : Fin cfg0.N) : (dats m 0 c).after 3 t = nOf (labAt m c p0) := by dsimp only [dats]

theorem before_emb (c : Dev nD) (t : Fin cfg0.N) (d) : (dats m 0 c).before 0 t d = iblk m c 0 t :=
  before0_0_of m (dats m 0 c) (A_eq m c 0) (after_emb m c) t d
theorem before_lab (c : Dev nD) (t : Fin cfg0.N) (d) : (dats m 0 c).before 1 t d = iblk m c 1 t :=
  before0_1_of m (dats m 0 c) (A_eq m c 1) (after_lab m c) t d

/-- The last point finds the loss the first left. -/
theorem before_loss (c : Dev nD) (t : Fin cfg0.N) (h1 : t.val = 1) (d) :
    (dats m 0 c).before 2 t d = lossFirst (grid0.coords p0) (embAt m c p0) (labAt m c p0) := by
  rw [Dat.before_out_kept _ 2 rfl t (by omega)
    (Bool.eq_false_iff.mpr fun h => by have := (flush0_2 _).mp h; dsimp only at this; omega) (fun _ => rfl) (fun _ _ => rfl)]
  have e : (⟨t.val - 1, Nat.lt_of_le_of_lt (Nat.sub_le _ _) t.isLt⟩ : Fin cfg0.N) = p0 := Fin.ext (by simp [p0, h1])
  rw [after_loss, e]
  exact if_pos p0_val

/-- The count's window is stored at the first point, so it is not idle there. -/
theorem cnt_live (t : Fin cfg0.N) (h0 : t.val = 0) : cfg0.idle 3 (grid0.coords t) = false := by
  have h := fills_first t h0
  show (!(k0_cond1 (grid0.coords t) == 1#1)) = false
  rw [show k0_cond1 (grid0.coords t) = 1#1 from h]; rfl

/-- It is idle at the last. -/
theorem cnt_idle (t : Fin cfg0.N) (h1 : t.val = 1) : cfg0.idle 3 (grid0.coords t) = true := by
  have h := not_fills_last t h1
  show (!(k0_cond1 (grid0.coords t) == 1#1)) = true
  rw [Bool.not_eq_true', beq_eq_false_iff_ne]; exact h

/-- The last point finds the count the first left. -/
theorem before_cnt (c : Dev nD) (t : Fin cfg0.N) (h1 : t.val = 1) (d) : (dats m 0 c).before 3 t d = nOf (labAt m c p0) := by
  rw [Dat.before_out_traj _ 3 rfl (fun _ _ => rfl) (fun t _ _ _ => by rw [after_cnt, after_cnt]) t.val t rfl d, after_cnt]
  refine if_neg ?_
  have h : cfg0.fresh 3 (0 + 1) = false := by
    rw [Cfg.fresh_succ cfg0 3 0 p0.isLt]
    have hf : (cfg0.win 3).flush p0 = false := Bool.eq_false_iff.mpr fun h => by
      have := (flush0_3 _).mp h; simp [p0] at this
    have hi : cfg0.idle 3 (cfg0.grid.coords p0) = false := cnt_live p0 rfl
    exact (congrArg₂ (fun a b => a || (b && cfg0.fresh 3 0)) hf hi).trans (by simp)
  rw [h1, show (1 : ℕ) = 0 + 1 from rfl, h]; exact Bool.false_ne_true

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (stgE t) fullShare ((dats m 0 c).before 0 t d))
    ∗ (∃ d, owns (c : Thread nD τ) (stgT t) fullShare ((dats m 0 c).before 1 t d))
    ∗ (∃ d, owns (c : Thread nD τ) (stgL t) fullShare ((dats m 0 c).before 2 t d))
    ∗ (∃ d, owns (c : Thread nD τ) (stgN t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

theorem leaves_emb (c : Dev nD) (t : Fin cfg0.N) :
    (dats m 0 c).leavesExact 0 t = owns (c : Thread nD τ) (stgE t) fullShare (embAt m c t) := by
  unfold Dat.leavesExact; rw [show cfg0.idle 0 (cfg0.grid.coords t) = false from rfl, after_emb]
theorem leaves_lab (c : Dev nD) (t : Fin cfg0.N) :
    (dats m 0 c).leavesExact 1 t = owns (c : Thread nD τ) (stgT t) fullShare (labAt m c t) := by
  unfold Dat.leavesExact; rw [show cfg0.idle 1 (cfg0.grid.coords t) = false from rfl, after_lab]
theorem leaves_loss (c : Dev nD) (t : Fin cfg0.N) :
    (dats m 0 c).leavesExact 2 t = owns (c : Thread nD τ) (stgL t) fullShare (lossAt m c t) := by
  unfold Dat.leavesExact; rw [show cfg0.idle 2 (cfg0.grid.coords t) = false from rfl, after_loss]

/-- The count's buffer holds the count after either point: stored at the first, written back at the last. -/
theorem leaves_cnt (c : Dev nD) (t : Fin cfg0.N) :
    (dats m 0 c).leavesExact 3 t = owns (c : Thread nD τ) (stgN t) fullShare (nOf (labAt m c p0)) := by
  have ht : t.val < 2 := Nat.lt_of_lt_of_eq t.isLt N_0
  unfold Dat.leavesExact
  by_cases h0 : t.val = 0
  · rw [show cfg0.idle 3 (cfg0.grid.coords t) = false from cnt_live t h0, after_cnt]
  · rw [show cfg0.idle 3 (cfg0.grid.coords t) = true from cnt_idle t (by omega),
      show (cfg0.win 3).flush t = true from (flush0_3 t).mpr (by omega), after_cnt]

set_option maxHeartbeats 1600000 in
/-- The body keeps to the proof data at the first point, -/
theorem sound_first (c : Dev nD) (t : Fin cfg0.N) (h0 : t.val = 0) :
    bodyPre m c t ⊢ wp frame (wpE (defs₀ (F := F)) Variants.none c none) Set.univ (bodyAt0 t) (fun _ => bodyPost m c t) := by
  obtain rfl : t = p0 := Fin.ext h0
  unfold bodyPre bodyPost bodyAt0
  simp only [before_emb, before_lab]
  rw [show (dats m 0 c).owesAt () p0.succ = (dats m 0 c).owesAt () p0.castSucc from rfl,
    show (dats m 0 c).Φ p0.succ = filled m c from rfl, inv_castSucc, inv_zero m c _ _ h0, handed_eq,
    leaves_emb, leaves_lab, leaves_loss, leaves_cnt,
    show lossAt m c p0 = lossFirst (grid0.coords p0) (embAt m c p0) (labAt m c p0) from if_pos p0_val]
  unfold filled
  iintro ⟨⟨⟨HS0, HS1, HS2, HS3⟩, Hg⟩, Ho, ⟨%d0, H0⟩, ⟨%d1, H1⟩, ⟨%d2, H2⟩, ⟨%d3, H3⟩⟩
  iapply (first_run c (grid0.coords p0) _ _ _ _ _ _ _ _ _ _ _ _ _ _ _ _ (fills_first p0 h0) (not_divides_first p0 h0)
    (embAt m c p0) (labAt m c p0) Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  iexact H3

set_option maxHeartbeats 1600000 in
/-- and at the last. -/
theorem sound_last (c : Dev nD) (t : Fin cfg0.N) (h1 : t.val = 1) :
    bodyPre m c t ⊢ wp frame (wpE (defs₀ (F := F)) Variants.none c none) Set.univ (bodyAt0 t) (fun _ => bodyPost m c t) := by
  have hz : t.val ≠ 0 := by omega
  unfold bodyPre bodyPost bodyAt0
  simp only [before_emb, before_lab, before_loss m c t h1, before_cnt m c t h1]
  rw [show (dats m 0 c).owesAt () t.succ = (dats m 0 c).owesAt () t.castSucc from rfl,
    show (dats m 0 c).Φ t.succ = filled m c from rfl, inv_castSucc, inv_pos m c _ _ hz,
    leaves_emb, leaves_lab, leaves_loss, leaves_cnt, show lossAt m c t = _ from if_neg hz]
  unfold filled
  iintro ⟨⟨⟨HS0, HS1, HS2, HS3⟩, Hg⟩, Ho, ⟨%d0, H0⟩, ⟨%d1, H1⟩, ⟨%d2, H2⟩, ⟨%d3, H3⟩⟩
  iapply (last_run c (grid0.coords t) _ _ _ _ _ _ _ _ _ _ _ _ _ _ _ _ (not_fills_last t h1) (divides_last t h1)
    (embAt m c t) (labAt m c t) _ _ _ _ _ _ Set.univ _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  iexact H3

/-- So at every point. -/
theorem sound_body (c : Dev nD) (t : Fin cfg0.N) :
    bodyPre m c t ⊢ wp frame (wpE (defs₀ (F := F)) Variants.none c none) Set.univ (bodyAt0 t) (fun _ => bodyPost m c t) := by
  have ht : t.val < 2 := Nat.lt_of_lt_of_eq t.isLt N_0
  by_cases h0 : t.val = 0
  · exact sound_first m c t h0
  · exact sound_last m c t (by omega)

end Cert.KernelIdeal.Hand

end
-- ==== Proof.Launch.lean ====
/- The idealized kernel's launch: every run ends, leaves the arguments as they were and every semaphore at zero. -/
module

public import proofs.«01_k».proof.Proof.Region
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]
variable (m : (ℓ : Loc nD τ sig) → Buf (Elt F) ℓ) (ρ : Dev nD → PrngReg)

/-- The body's row of the definitions is the body at the point. -/
theorem row_eq (t : Fin cfg0.N) :
    defs₀ (F := F) .tc cfg0.body (cfg0.bodyArgs t (cfg0.slots t)) = bodyAt0 t := by
  unfold defs₀; rw [Defs.onTc_tc]

/-- The body keeps to the region's proof data at every point. -/
theorem body_obligation (c : Dev nD) :
    BodyObligation (dats (F := F) m 0 c) (defs₀ (F := F)) Variants.none () Set.univ := fun t => by
  rw [bigSep_W0, bigSep_W0, row_eq]
  exact triple_restated (sound_body m c t) rfl .rfl fun _ => .rfl

/-- What the launch hands the region is the invariant before the first point. -/
theorem inv_entry (c : Dev nD) : Pipeline.ΦA spec0 c ⊢ (dats (F := F) m 0 c).Φ 0 := by
  rw [show (dats (F := F) m 0 c).Φ 0 = inv m c 0 (Nat.zero_le _) from rfl, inv_zero m c 0 _ rfl]

/-- The invariant after the last point gives back what the launch handed over. -/
theorem inv_exit (c : Dev nD) : (dats (F := F) m 0 c).Φ (Fin.last cfg0.N) ⊢ Pipeline.ΦA spec0 c := by
  rw [show (dats (F := F) m 0 c).Φ (Fin.last cfg0.N) = inv m c (Fin.last cfg0.N).val (Nat.le_refl _) from rfl,
    inv_pos m c _ _ (by rw [Fin.val_last]; exact fun h => by have := N_0; have : cfg0.N = 2 := N_0; omega), handed_eq]
  unfold filled
  iintro ⟨⟨HV, HA, HC, HW⟩, Hg⟩
  isplitl [HV HA HC HW]
  · isplitl [HV]
    · iexists _; iexact HV
    isplitl [HA]
    · iexists _; iexact HA
    isplitl [HC]
    · iexists _; iexact HC
    iexists _; iexact HW
  · iexact Hg

set_option backward.isDefEq.respectTransparency.types false in
set_option maxHeartbeats 800000 in
/-- Every run ends with the region's arrays at what its proof data give, every other array at what the operations
    after the region leave, and every semaphore at zero. -/
theorem run_full : θ_run defs (onTc (τ := τ) (main (F := F))) (s₀ m ρ) (fun r =>
    (Pipeline.FramePost cfgs (dats m) 0 (Pipeline.afterTail₀ cfgs (dats m) 0 (V0 m) [hostOps1])) r
      ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hin := inv_entry m) (hout := inv_exit m)

/-- The same without the semaphores. -/
theorem run_arrays : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_full m ρ)

/-- The arguments end as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_arrays m ρ))
    ((θ_run defs _ _).mono (fun _ h => h.2) (run_full m ρ))

end Cert.KernelIdeal.Hand
-- ==== Proof.Outcome.lean ====
/- The idealized kernel's two results as functions of its arguments. -/
module

public import proofs.«01_k».proof.Proof.Launch
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F] [Named F]
variable (m : (ℓ : Loc nD τ sig) → Buf (Elt F) ℓ) (ρ : Dev nD → PrngReg)

/-- The region's last point. -/
def p1 : Fin cfg0.N := ⟨1, Nat.lt_of_lt_of_eq Nat.one_lt_two N_0.symm⟩

/-- Every window's block is its whole array at both points. -/
theorem idx : ∀ t : Fin cfg0.N, win0_0.index t = ![0, 0] ∧ win0_1.index t = ![0, 0] :=
  (by decide +kernel : ∀ t : Fin grid0.N, _)

/-- The embeddings a point is handed are the first argument. -/
theorem embAt_eq (c : Dev nD) (t : Fin cfg0.N) : embAt m c t = m ((c : Thread nD τ).loc main_arg0) := by
  unfold embAt; blk_ext! [iblk, V, idx t]

/-- The labels a point is handed are the second argument, as one row. -/
theorem labAt_eq (c : Dev nD) (t : Fin cfg0.N) :
    labAt m c t = shapeCast S1x4096 (m ((c : Thread nD τ).loc main_arg1)) shapeCasts_S4096_S1x4096 := by
  have h : labAt m c t = V m c main_v0 := by unfold labAt; blk_ext! [iblk, idx t]
  rw [h]
  show StableHlo.after [hostOps0].flatten (fun b => m (c, b)) (Proc.tc.devRef main_v0) = _
  simp only [hostOps0, List.flatten_cons, List.flatten_nil, List.append_nil]
  after_results_simp
  rfl

/-- The loss the kernel returns. -/
def lossOf (X : Vec F S4096x16 .f32) (T : Vec F S1x4096 .i32) : Vec F S1x1 .f32 :=
  lossLast (grid0.coords p1) X (lossFirst (grid0.coords p0) X T) (nOf T) (vOf X) (aOf T) (cOf T) (wOf T)

theorem final_loss (c : Dev nD) : (dats m 0 c).arrAt 2 cfg0.N
    = lossOf (m ((c : Thread nD τ).loc main_arg0))
        (shapeCast S1x4096 (m ((c : Thread nD τ).loc main_arg1)) shapeCasts_S4096_S1x4096) := by
  refine (dats m 0 c).arrAt_eq_of_after_last 2 p1 (by decide +kernel) _ fun j => ?_
  blk_simp
  rw [after_loss]
  have h : lossAt m c p1 = lossOf (embAt m c p1) (labAt m c p1) := by
    unfold lossAt lossOf
    rw [if_neg (by exact Nat.one_ne_zero), embAt_eq, embAt_eq, labAt_eq, labAt_eq]
  rw [h, embAt_eq, labAt_eq]

theorem final_cnt (c : Dev nD) : (dats m 0 c).arrAt 3 cfg0.N
    = nOf (shapeCast S1x4096 (m ((c : Thread nD τ).loc main_arg1)) shapeCasts_S4096_S1x4096) := by
  refine (dats m 0 c).arrAt_eq_of_after_last 3 p1 (by decide +kernel) _ fun j => ?_
  blk_simp
  rw [after_cnt, labAt_eq]

end Cert.KernelIdeal.Hand
-- ==== Proof.ReadLoss.lean ====
/- The kernel's loss at the extended reals: the two grid points' rows added up, divided by the count. -/
module

public import proofs.«01_k».proof.Proof.ReadPoint
public import proofs.«01_k».proof.Proof.ReadCount
public import proofs.«01_k».proof.Proof.Outcome

@[expose] public section

set_option maxRecDepth 16384

noncomputable section

namespace Cert.KernelIdeal.Hand

open Cert.KernelIdeal Cert.KernelIdeal.Gen Cert.Triplet
open Idealize.ShloMosaic

variable (X : Vec Ideal S4096x16 .f32) (T : Vec Ideal S1x4096 .i32)
variable (x : Fin 4096 → Fin 16 → ℝ) (y : Fin 4096 → ℕ)

/-- The squared norm the kernel stores for a row. -/
theorem norm_apply (hX : ∀ i k, X (ix2 i k) = (x i k : EReal)) (i : Fin 4096) :
    k0_pay4 X (ix2 i 0) = (sqn x i : EReal) := by
  have h : k0_pay4 X (ix2 i 0) = ∑ k : Fin 16, X (ix2 i k) * X (ix2 i k) := by pointwise [k0_pay4]
  rw [h]
  simp only [hX]
  unfold sqn
  rw [coe_sum]
  exact Finset.sum_congr rfl fun k _ => by rw [← EReal.coe_mul]

/-- The extended embeddings the kernel stores. -/
theorem vOf_apply (hX : ∀ i k, X (ix2 i k) = (x i k : EReal)) (i : Fin 4096) (k : Fin 18) :
    vOf X (ix2 i k) = ext x i k := by
  have h5 (r : Fin 4096) : k0_pay5 (F := Ideal) (ix2 r 0) = 1 := by pointwise [k0_pay5]
  have h3 (r : Fin 4096) (q : Fin 16) : k0_pay3 X (ix2 r q) = X (ix2 r q) := by pointwise [k0_pay3]
  have hk := k.isLt
  unfold vOf
  have cover : ∃ p ∈ ([⟨Rect.unit ![0, 17] S4096x1.size inb_S4096x18_S4096x1_0_17, k0_pay5 (F := Ideal)⟩,
      ⟨Rect.unit ![0, 16] S4096x1.size inb_S4096x18_S4096x1_0_16, k0_pay4 X⟩,
      ⟨Rect.unit ![0, 0] S4096x16.size inb_S4096x18_S4096x16_0_0, k0_pay3 X⟩] : List (View.Piece (Elt Ideal) S4096x18 .f32)),
      ix2 i k ∈ p.1.set := by
    have h0 : i.val < 4096 := i.isLt
    rcases (by omega : k.val < 16 ∨ k.val = 16 ∨ k.val = 17) with hk | hk | hk
    · refine ⟨_, List.mem_cons_of_mem _ (List.mem_cons_of_mem _ List.mem_cons_self), ?_⟩
      refine (Rect.mem_set_unit (inb := inb_S4096x18_S4096x16_0_0)).mpr fun a => ?_
      match a with
      | ⟨0, _⟩ => show 0 ≤ i.val ∧ i.val < 0 + 4096; omega
      | ⟨1, _⟩ => show 0 ≤ k.val ∧ k.val < 0 + 16; omega
    · refine ⟨_, List.mem_cons_of_mem _ List.mem_cons_self, ?_⟩
      refine (Rect.mem_set_unit (inb := inb_S4096x18_S4096x1_0_16)).mpr fun a => ?_
      match a with
      | ⟨0, _⟩ => show 0 ≤ i.val ∧ i.val < 0 + 4096; omega
      | ⟨1, _⟩ => show 16 ≤ k.val ∧ k.val < 16 + 1; omega
    · refine ⟨_, List.mem_cons_self, ?_⟩
      refine (Rect.mem_set_unit (inb := inb_S4096x18_S4096x1_0_17)).mpr fun a => ?_
      match a with
      | ⟨0, _⟩ => show 0 ≤ i.val ∧ i.val < 0 + 4096; omega
      | ⟨1, _⟩ => show 17 ≤ k.val ∧ k.val < 17 + 1; omega
  canon_tiles z h using cover
  · have hz : z = ix2 i 0 := funext fun a => match a with
      | ⟨0, _⟩ => Fin.ext h0.symm
      | ⟨1, _⟩ => Fin.ext (show (z 1).val = 0 by omega)
    have hk1 : k.val = 17 + (z 1).val := h1
    rw [hz, h5, ext, dif_neg (by omega), if_neg (by omega)]
  · have hz : z = ix2 i 0 := funext fun a => match a with
      | ⟨0, _⟩ => Fin.ext h0.symm
      | ⟨1, _⟩ => Fin.ext (show (z 1).val = 0 by omega)
    have hk1 : k.val = 16 + (z 1).val := h1
    rw [hz, norm_apply X x hX, ext, dif_neg (by omega), if_pos (by omega)]
  · have hk1 : k.val = (z 1).val := h1
    have hz : z = ix2 i ⟨k.val, by omega⟩ := funext fun a => match a with
      | ⟨0, _⟩ => Fin.ext h0.symm
      | ⟨1, _⟩ => Fin.ext h1.symm
    rw [hz, h3, hX, ext, dif_pos (by omega)]

/-- The first grid point starts at the first row. -/
theorem offsets_first : k0_off1 (grid0.coords p0) = ![0, 0] ∧ k0_off2 (grid0.coords p0) = ![0, 0] := by
  have e : (grid0.coords p0 0).val = 0 := coord_val p0
  unfold k0_off1 k0_off2
  rw [e]
  decide

/-- The second starts at row 2048. -/
theorem offsets_last : k0_off1 (grid0.coords p1) = ![2048, 0] ∧ k0_off2 (grid0.coords p1) = ![2048, 0] := by
  have e : (grid0.coords p1 0).val = 1 := coord_val p1
  unfold k0_off1 k0_off2
  rw [e]
  decide

section
variable (hX : ∀ i k, X (ix2 i k) = (x i k : EReal)) (hT : ∀ i, T (ix2 0 i) = BitVec.ofNat 32 (y i)) (hy : ∀ i, y i < 256)
include hX hT hy

/-- A grid point adds its 2048 rows' parts. -/
theorem added_apply (i : grid0.Coords) (o : ℕ) (ho : o + 2048 ≤ 4096) (h1 : k0_off1 i = ![o, 0]) (h2 : k0_off2 i = ![o, 0])
    (l : EReal) : added i X (vOf X) (aOf T) (cOf T) (wOf T) l
      = l + ∑ r : Fin 2048, hinge x y ⟨o + r.val, by omega⟩ := by
  have inV (b : ℕ) (hb : b + 1024 ≤ 4096) (a) : (![b, 0] : Fin 2 → ℕ) a + S1024x18.size a ≤ S4096x18.size a :=
    match a with
    | ⟨0, _⟩ => show b + 1024 ≤ 4096 from hb
    | ⟨1, _⟩ => show 0 + 18 ≤ 18 from le_refl _
  have inA (b : ℕ) (hb : b + 1024 ≤ 4096) (a) : (![0, b] : Fin 2 → ℕ) a + S1x1024.size a ≤ S1x4096.size a :=
    match a with
    | ⟨0, _⟩ => show 0 + 1 ≤ 1 from le_refl _
    | ⟨1, _⟩ => show b + 1024 ≤ 4096 from hb
  refine added_rows x y (fun r => ⟨o + r.val, by omega⟩) _ ?_ _ ?_ _ ?_ _ ?_
    (fun b hb => View.ld (vOf X) (Rect.unit (s := S4096x18) ![b, 0] S1024x18.size (inV b hb))) ?_
    (fun b hb => View.ld (aOf T) (Rect.unit (s := S1x4096) ![0, b] S1x1024.size (inA b hb))) ?_ l
  · intro r k
    rw [View.ld_unit_apply_of X _ _ _ _ (ix2 ⟨o + r.val, by omega⟩ k), hX]
    exact fun a => match a with
    | ⟨0, _⟩ => (congrArg (· + r.val) (congrFun h1 0)).symm
    | ⟨1, _⟩ => ((congrArg (· + k.val) (congrFun h1 1)).trans (Nat.zero_add _)).symm
  · intro j
    rw [View.ld_unit_apply_of (vOf X) _ _ _ _ (ix2 j ⟨16, by omega⟩), vOf_apply X x hX]
    · rfl
    · exact fun a => match a with
      | ⟨0, _⟩ => (Nat.zero_add _).symm
      | ⟨1, _⟩ => rfl
  · intro r
    rw [View.ld_unit_apply_of (cOf T) _ _ _ _ (ix2 ⟨o + r.val, by omega⟩ 0), cOf_apply T y hT hy]
    exact fun a => match a with
    | ⟨0, _⟩ => (congrArg (· + r.val) (congrFun h2 0)).symm
    | ⟨1, _⟩ => (congrFun h2 1).symm
  · intro r
    rw [View.ld_unit_apply_of (wOf T) _ _ _ _ (ix2 ⟨o + r.val, by omega⟩ 0), wOf_apply T y hT hy]
    exact fun a => match a with
    | ⟨0, _⟩ => (congrArg (· + r.val) (congrFun h2 0)).symm
    | ⟨1, _⟩ => (congrFun h2 1).symm
  · intro b hb j k
    rw [View.ld_unit_apply_of (vOf X) _ _ _ _ (ix2 (col b hb j) k), vOf_apply X x hX]
    exact fun a => match a with
    | ⟨0, _⟩ => rfl
    | ⟨1, _⟩ => (Nat.zero_add _).symm
  · intro b hb j
    rw [View.ld_unit_apply_of (aOf T) _ _ _ _ (ix2 0 (col b hb j)), aOf_apply T y hT hy]
    exact fun a => match a with
    | ⟨0, _⟩ => rfl
    | ⟨1, _⟩ => rfl

/-- The loss the kernel returns. -/
theorem lossOf_eq : lossOf X T = fun _ => lossVal x y := by
  have h (n : BitVec 32) (l : EReal) : k0_pay2 (F := Ideal) n l
      = Ideal.div l (max (FloatOps.sitofp (F := Ideal) .f32 n) 1) := by
    pointwise [k0_pay2]
    rfl
  have h0 : (Scalar.ofBits .f32 0x00000000#32 : Ideal .f32) = (0 : EReal) := by
    show Ideal.ofBits .f32 0x00000000#32 = (0 : EReal)
    simp [Ideal.ofBits, Ideal.ieee]
  funext j
  unfold lossOf lossLast lossFirst
  rw [h, added_apply X T x y hX hT hy _ 0 (by omega) offsets_first.1 offsets_first.2,
    added_apply X T x y hX hT hy _ 2048 (by omega) offsets_last.1 offsets_last.2, nOf_eq T y hT hy, h0, zero_add,
    sitofp_small _ (by have := total_le y; omega)]
  unfold lossVal
  rw [sum_halves (hinge x y)]

end

end Cert.KernelIdeal.Hand
-- ==== Proof.Results.lean ====
/- What the idealized kernel's two results hold at its end, and the arguments. -/
module

public import proofs.«01_k».proof.Proof.ReadLoss

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat)

variable {F : FTy → Type} [FloatOps F] [Named F]
variable (m : (ℓ : Loc nD τ sig) → Buf (Elt F) ℓ) (ρ : Dev nD → PrngReg)

/-- The labels as the kernel is handed them, one row. -/
def labelRow (c : Dev nD) : Vec F S1x4096 .i32 :=
  shapeCast S1x4096 (m ((c : Thread nD τ).loc main_arg1)) shapeCasts_S4096_S1x4096

/-- The windows' arrays are different buffers. -/
theorem arrays_inj : Function.Injective (Pipeline.arrRef spec0) := by decide

/-- The first result is the region's loss, its two unit axes dropped. -/
theorem tail_loss (c : Dev nD) : Pipeline.afterTail₀ cfgs (dats m) 0 (V0 m) [hostOps1] c main_v2
    = shapeCast S_ (lossOf (m ((c : Thread nD τ).loc main_arg0)) (labelRow m c)) shapeCasts_S1x1_S_ := by
  unfold Pipeline.afterTail₀
  simp only [hostOps1, List.flatten_cons, List.flatten_nil, List.append_nil]
  after_results_simp
  have h := Pipeline.withArrays_arr spec0 arrays_inj c (V0 m c) (fun w => (dats m 0 c).arrAt w cfg0.N) 2
  exact congrArg (fun v : Vec F S1x1 .f32 => shapeCast S_ v shapeCasts_S1x1_S_) (h.trans (final_loss m c))

/-- The second is the region's count. -/
theorem tail_cnt (c : Dev nD) : Pipeline.afterTail₀ cfgs (dats m) 0 (V0 m) [hostOps1] c main_v3
    = shapeCast S_ (nOf (F := F) (labelRow m c)) shapeCasts_S1x1_S_ := by
  unfold Pipeline.afterTail₀
  simp only [hostOps1, List.flatten_cons, List.flatten_nil, List.append_nil]
  after_results_simp
  have h := Pipeline.withArrays_arr spec0 arrays_inj c (V0 m c) (fun w => (dats m 0 c).arrAt w cfg0.N) 3
  exact congrArg (fun v : Vec F S1x1 .i32 => shapeCast S_ v shapeCasts_S1x1_S_) (h.trans (final_cnt m c))

/-- Every run ends with the loss and the count of the arguments, and the arguments as they were. -/
theorem run_results : θ_run defs (onTc (τ := τ) (main (F := F))) ⟨m, fun _ => 0, ρ⟩ (fun r => ∀ c : Dev nD,
      r.2.mem ((c : Thread nD τ).loc main_v2)
        = shapeCast S_ (lossOf (m ((c : Thread nD τ).loc main_arg0)) (labelRow m c)) shapeCasts_S1x1_S_
      ∧ r.2.mem ((c : Thread nD τ).loc main_v3) = shapeCast S_ (nOf (F := F) (labelRow m c)) shapeCasts_S1x1_S_
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c =>
      ⟨((h.1 c).2 main_v2 (Pipeline.mem_restRefs_of main_v2 (by decide) (by decide))).trans (tail_loss m c),
        ((h.1 c).2 main_v3 (Pipeline.mem_restRefs_of main_v3 (by decide) (by decide))).trans (tail_cnt m c),
        (h.2.1 c).1, (h.2.1 c).2⟩)
    (θ_run_and (run_arrays m ρ) (frame m ρ))

end Cert.KernelIdeal.Hand
-- ==== Proof.RefTerms.lean ====
/- The reference's two results as terms of the arguments, the two masking constants left open, and what each stage is
   at an index over the extended reals. -/
module

public import proofs.«01_k».proof.Proof.ReadRows
public import proofs.«01_k».proof.Proof.Gen.ReferenceIdeal.Run

@[expose] public section

set_option maxRecDepth 16384

noncomputable section

namespace Cert.Triplet

open Cert.ReferenceIdeal Cert.ReferenceIdeal.Gen
open Idealize.ShloMosaic

/-- A column spread over a square, by rows. -/
def downRows {α : Type} (v : S4096.Idx → α) : S4096x4096.Idx → α :=
  broadcastInDim S4096x4096 ![0, 1] bcast_S4096x1_S4096x4096_0_1 (broadcastInDim S4096x1 ![0] bcast_S4096_S4096x1_0 v)

/-- A row spread over a square, by columns. -/
def acrossCols {α : Type} (v : S4096.Idx → α) : S4096x4096.Idx → α :=
  broadcastInDim S4096x4096 ![0, 1] bcast_S1x4096_S4096x4096_0_1 (broadcastInDim S1x4096 ![1] bcast_S4096_S1x4096_1 v)

/-- One value over a square. -/
def square {α : Type} (v : S_.Idx → α) : S4096x4096.Idx → α := broadcastInDim S4096x4096 ![] bcast_S_S4096x4096 v

/-- One value along a line. -/
def line {α : Type} (v : S_.Idx → α) : S4096.Idx → α := broadcastInDim S4096 ![] bcast_S_S4096 v

/-- The rows' squared norms. -/
def refNorms (X : FVec Ideal S4096x16 .f32) : FVec Ideal S4096 .f32 :=
  Host.reduceAdd (mulf X X) (constant (F := Ideal) S_ .f32 0x00000000#32) reducesTo_S4096x16_S4096_d1 h_S_

/-- The products of every two rows. -/
def refProducts (X : FVec Ideal S4096x16 .f32) : FVec Ideal S4096x4096 .f32 :=
  Host.dotGeneral dot_S4096x16_S16x4096_S4096x4096_1_0_0_1_n_n none X
    (transpose S16x4096 [1, 0] X transposes_S4096x16_S16x4096_1_0)

/-- The squared distances, from the norms and the products. -/
def refDists (q : FVec Ideal S4096 .f32) (p : FVec Ideal S4096x4096 .f32) : FVec Ideal S4096x4096 .f32 :=
  maximumf (subf (addf (downRows q) (acrossCols q)) (mulf (square (constant (F := Ideal) S_ .f32 0x40000000#32)) p))
    (square (constant (F := Ideal) S_ .f32 0x00000000#32))

/-- Which pairs of rows have one label. -/
def refSame (T : Vec Ideal S4096 .i32) : Vec Ideal S4096x4096 .i1 := cmpi .eq (downRows T) (acrossCols T)

/-- Which pairs are of two rows. -/
def refApart : Vec Ideal S4096x4096 .i1 :=
  cmpi .ne (downRows (iotaInDim S4096 32 0)) (acrossCols (iotaInDim S4096 32 0))

/-- Each row's greatest masked distance. -/
def refFar (g : Vec Ideal S4096x4096 .i1) (d : FVec Ideal S4096x4096 .f32) (lo : FVec Ideal S_ .f32) : FVec Ideal S4096 .f32 :=
  Host.reduce FloatOps.maximumf (select g d (square (id lo))) (constant (F := Ideal) S_ .f32 0xFF800000#32)
    reducesTo_S4096x4096_S4096_d1 h_S_

/-- Each row's least masked distance. -/
def refNear (g : Vec Ideal S4096x4096 .i1) (d : FVec Ideal S4096x4096 .f32) (hi : FVec Ideal S_ .f32) : FVec Ideal S4096 .f32 :=
  Host.reduce FloatOps.minimumf (select g d (square (id hi))) (constant (F := Ideal) S_ .f32 0x7F800000#32)
    reducesTo_S4096x4096_S4096_d1 h_S_

/-- Which rows have a marked pair. -/
def refAny (g : Vec Ideal S4096x4096 .i1) : Vec Ideal S4096 .i1 :=
  Host.reduce IntOp.ori g (constantI S_ 1 0#1) reducesTo_S4096x4096_S4096_d1 h_S_

/-- How many of a line's marks are set. -/
def refCount (g : Vec Ideal S4096 .i1) : Vec Ideal S_ .i32 :=
  Host.reduce IntOp.addi (extui 32 g natLt_1_32) (constantI S_ 32 0#32) reducesTo_S4096_S_d0 h_S_

/-- The parts of the marked rows, added up. -/
def refSum (g : Vec Ideal S4096 .i1) (a b : FVec Ideal S4096 .f32) : FVec Ideal S_ .f32 :=
  Host.reduceAdd (select g (maximumf (addf (subf a b) (line (constant (F := Ideal) S_ .f32 0x3F800000#32)))
    (line (constant (F := Ideal) S_ .f32 0x00000000#32))) (line (id (constant (F := Ideal) S_ .f32 0x00000000#32))))
    (constant (F := Ideal) S_ .f32 0x00000000#32) reducesTo_S4096_S_d0 h_S_

/-- Which rows have both a positive and a negative. -/
def refValid (T : Vec Ideal S4096 .i32) : Vec Ideal S4096 .i1 :=
  andi (refAny (andi (refSame T) refApart)) (refAny (noti (refSame T)))

/-- The loss, the two masks open. -/
def refLoss (lo hi : FVec Ideal S_ .f32) (X : FVec Ideal S4096x16 .f32) (T : Vec Ideal S4096 .i32) : FVec Ideal S_ .f32 :=
  Host.divf (refSum (refValid T)
      (refFar (andi (refSame T) refApart) (refDists (refNorms X) (refProducts X)) lo)
      (refNear (noti (refSame T)) (refDists (refNorms X) (refProducts X)) hi))
    (maximumf (sitofp .f32 (refCount (refValid T))) (constant (F := Ideal) S_ .f32 0x3F800000#32))

end Cert.Triplet
-- ==== Proof.RefRead.lean ====
/- The reference's stages, each at an index over the extended reals. -/
module

public import proofs.«01_k».proof.Proof.RefTerms

@[expose] public section

set_option maxRecDepth 16384

noncomputable section

namespace Cert.Triplet

open Cert.ReferenceIdeal Cert.ReferenceIdeal.Gen
open Idealize.ShloMosaic

/-- Negative infinity, the least of the extended reals. -/
theorem bits_bot : Ideal.ofBits .f32 0xFF800000#32 = (⊥ : EReal) := Cert.KernelIdeal.Hand.bits_lowest

/-- Positive infinity, the greatest of them. -/
theorem bits_top : Ideal.ofBits .f32 0x7F800000#32 = (⊤ : EReal) := Cert.KernelIdeal.Hand.bits_highest

theorem refNorms_apply (X : FVec Ideal S4096x16 .f32) (i : Fin 4096) :
    refNorms X (ix1 i) = ∑ k : Fin 16, X (ix2 i k) * X (ix2 i k) := by
  pointwise [refNorms]

theorem refProducts_apply (X : FVec Ideal S4096x16 .f32) (i j : Fin 4096) :
    refProducts X (ix2 i j) = ∑ k : Fin 16, X (ix2 i k) * X (ix2 j k) := by
  pointwise [refProducts]

theorem refDists_apply (q : FVec Ideal S4096 .f32) (p : FVec Ideal S4096x4096 .f32) (i j : Fin 4096) :
    refDists q p (ix2 i j) = max (q (ix1 i) + q (ix1 j) - Ideal.ofBits .f32 0x40000000#32 * p (ix2 i j)) 0 := by
  pointwise [refDists, downRows, acrossCols, square]

theorem refSame_apply (T : Vec Ideal S4096 .i32) (i j : Fin 4096) :
    refSame T (ix2 i j) = IntOp.cmpi .eq (T (ix1 i)) (T (ix1 j)) := by
  pointwise [refSame, downRows, acrossCols]

theorem refApart_apply (i j : Fin 4096) :
    refApart (ix2 i j) = IntOp.cmpi .ne (BitVec.ofNat 32 i.val) (BitVec.ofNat 32 j.val) := by
  pointwise [refApart, downRows, acrossCols]

theorem refFar_apply (g : Vec Ideal S4096x4096 .i1) (d : FVec Ideal S4096x4096 .f32) (lo : FVec Ideal S_ .f32)
    (i : Fin 4096) :
    refFar g d lo (ix1 i) = Finset.univ.sup fun j : Fin 4096 => Scalar.select (g (ix2 i j)) (d (ix2 i j)) (lo ix0) := by
  have h : refFar g d lo (ix1 i) = Finset.fold max (Ideal.ofBits .f32 0xFF800000#32)
      (fun j : Fin 4096 => Scalar.select (g (ix2 i j)) (d (ix2 i j)) (id lo ix0)) Finset.univ := by
    pointwise [refFar, square]
  rw [h, bits_bot]; rfl

theorem refNear_apply (g : Vec Ideal S4096x4096 .i1) (d : FVec Ideal S4096x4096 .f32) (hi : FVec Ideal S_ .f32)
    (i : Fin 4096) :
    refNear g d hi (ix1 i) = Finset.univ.inf fun j : Fin 4096 => Scalar.select (g (ix2 i j)) (d (ix2 i j)) (hi ix0) := by
  have h : refNear g d hi (ix1 i) = Finset.fold min (Ideal.ofBits .f32 0x7F800000#32)
      (fun j : Fin 4096 => Scalar.select (g (ix2 i j)) (d (ix2 i j)) (id hi ix0)) Finset.univ := by
    pointwise [refNear, square]
  rw [h, bits_top]; rfl

theorem refAny_apply (g : Vec Ideal S4096x4096 .i1) (i : Fin 4096) :
    refAny g (ix1 i) = Finset.fold IntOp.ori 0#1 (fun j : Fin 4096 => g (ix2 i j)) Finset.univ := by
  pointwise [refAny]

theorem refCount_apply (g : Vec Ideal S4096 .i1) :
    refCount g ix0 = Finset.fold IntOp.addi 0#32 (fun i : Fin 4096 => BitVec.setWidth 32 (g (ix1 i))) Finset.univ := by
  pointwise [refCount]

theorem refSum_apply (g : Vec Ideal S4096 .i1) (a b : FVec Ideal S4096 .f32) :
    refSum g a b ix0 = ∑ i : Fin 4096, Scalar.select (g (ix1 i)) (max (a (ix1 i) - b (ix1 i) + 1) 0) 0 := by
  have h0 : (id (constant (F := Ideal) S_ .f32 0x00000000#32) ix0) = (0 : EReal) := by
    show constant (F := Ideal) S_ .f32 0x00000000#32 ix0 = (0 : EReal)
    pointwise []
  have h : refSum g a b ix0 = ∑ i : Fin 4096, Scalar.select (g (ix1 i)) (max (a (ix1 i) - b (ix1 i) + 1) 0)
      (id (constant (F := Ideal) S_ .f32 0x00000000#32) ix0) := by
    pointwise [refSum, line]
  rw [h, h0]

/-- Some mark of a finite family is set. -/
theorem fold_or {ι : Type} (s : Finset ι) (b : ι → Prop) [DecidablePred b] :
    s.fold IntOp.ori 0#1 (fun j => BitVec.ofBool (decide (b j))) = BitVec.ofBool (decide (∃ j ∈ s, b j)) := by
  classical
  induction s using Finset.induction_on with
  | empty => simp
  | insert a s ha ih =>
    rw [Finset.fold_insert ha, ih]
    simp only [Finset.exists_mem_insert]
    by_cases h₁ : b a <;> by_cases h₂ : ∃ j ∈ s, b j <;> simp [h₁, h₂, IntOp.ori]

/-- The marks of a finite family counted in words. -/
theorem fold_add {ι : Type} (s : Finset ι) (b : ι → Prop) [DecidablePred b] :
    s.fold IntOp.addi 0#32 (fun j => BitVec.setWidth 32 (BitVec.ofBool (decide (b j))))
      = BitVec.ofNat 32 (s.filter b).card := by
  classical
  induction s using Finset.induction_on with
  | empty => simp
  | insert a s ha ih =>
    rw [Finset.fold_insert ha, ih, Finset.filter_insert]
    by_cases h : b a
    · rw [if_pos h, Finset.card_insert_of_notMem (by simp [ha]), Nat.add_comm, BitVec.ofNat_add]
      simp [h, IntOp.addi]
    · simp [h, IntOp.addi]

/-- A mark chooses between two values. -/
theorem select_mark (p : Prop) [Decidable p] (a b : EReal) :
    Scalar.select (BitVec.ofBool (decide p)) a b = if p then a else b := by
  by_cases h : p <;> simp [h, Scalar.select]

/-- Small numbers are equal when their words are. -/
theorem word_eq (a b : ℕ) (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

end Cert.Triplet
-- ==== Proof.RefValue.lean ====
/- The reference's two results over the extended reals, at finite embeddings and labels from 0 to 255. -/
module

public import proofs.«01_k».proof.Proof.RefRead

@[expose] public section

set_option maxRecDepth 16384

noncomputable section

namespace Cert.Triplet

open Cert.ReferenceIdeal Cert.ReferenceIdeal.Gen
open Idealize.ShloMosaic

section
variable (X : FVec Ideal S4096x16 .f32) (T : Vec Ideal S4096 .i32) (x : Fin 4096 → Fin 16 → ℝ) (y : Fin 4096 → ℕ)

/-- The distances. -/
theorem dists_eq (hX : ∀ i k, X (ix2 i k) = (x i k : EReal)) (i j : Fin 4096) :
    refDists (refNorms X) (refProducts X) (ix2 i j) = (dist x i j : EReal) := by
  have hn (i : Fin 4096) : refNorms X (ix1 i) = (sqn x i : EReal) := by
    rw [refNorms_apply]
    unfold sqn
    rw [Cert.KernelIdeal.Hand.coe_sum]
    exact Finset.sum_congr rfl fun k _ => by rw [hX, EReal.coe_mul]
  have hp : refProducts X (ix2 i j) = ((∑ k, x i k * x j k : ℝ) : EReal) := by
    rw [refProducts_apply, Cert.KernelIdeal.Hand.coe_sum]
    exact Finset.sum_congr rfl fun k _ => by rw [hX, hX, EReal.coe_mul]
  rw [refDists_apply, hn, hn, hp, Cert.KernelIdeal.Hand.bits_two, ← EReal.coe_mul, ← EReal.coe_add, ← EReal.coe_sub]
  exact max_eq_left (EReal.coe_nonneg.mpr (dist_nonneg x i j))

variable (hT : ∀ i, T (ix1 i) = BitVec.ofNat 32 (y i)) (hy : ∀ i, y i < 256)
include hT hy

theorem same_eq (i j : Fin 4096) : refSame T (ix2 i j) = BitVec.ofBool (decide (y j = y i)) := by
  rw [refSame_apply, hT, hT]
  show BitVec.ofBool (BitVec.ofNat 32 (y i) == BitVec.ofNat 32 (y j)) = _
  congr 1
  have := word_eq (y i) (y j) (by have := hy i; omega) (by have := hy j; omega)
  rw [Bool.eq_iff_iff, beq_iff_eq, decide_eq_true_eq, this, eq_comm]

theorem positive_eq (i j : Fin 4096) :
    andi (refSame T) refApart (ix2 i j) = BitVec.ofBool (decide (y j = y i ∧ j ≠ i)) := by
  show IntOp.andi (refSame T (ix2 i j)) (refApart (ix2 i j)) = _
  rw [same_eq T y hT hy, refApart_apply]
  have h : IntOp.cmpi .ne (BitVec.ofNat 32 i.val) (BitVec.ofNat 32 j.val) = BitVec.ofBool (decide (j ≠ i)) := by
    show BitVec.ofBool (BitVec.ofNat 32 i.val != BitVec.ofNat 32 j.val) = _
    congr 1
    have := word_eq i.val j.val (by omega) (by omega)
    rw [Bool.eq_iff_iff, bne_iff_ne, decide_eq_true_eq, ne_eq, this, ne_eq, Fin.ext_iff, eq_comm]
  rw [h]
  by_cases h₁ : y j = y i <;> by_cases h₂ : j = i <;> simp [h₁, h₂, IntOp.andi]

theorem negative_eq (i j : Fin 4096) : noti (refSame T) (ix2 i j) = BitVec.ofBool (decide (y j ≠ y i)) := by
  have h : noti (refSame T) (ix2 i j) = ~~~ (refSame T (ix2 i j)) := by pointwise []
  rw [h, same_eq T y hT hy]
  by_cases h₁ : y j = y i <;> simp [h₁]

/-- The rows that count. -/
theorem valid_eq (i : Fin 4096) : refValid T (ix1 i) = BitVec.ofBool (decide (Counted y i)) := by
  show IntOp.andi (refAny (andi (refSame T) refApart) (ix1 i)) (refAny (noti (refSame T)) (ix1 i)) = _
  rw [refAny_apply, refAny_apply]
  simp only [positive_eq T y hT hy, negative_eq T y hT hy]
  rw [fold_or, fold_or]
  simp only [Finset.mem_univ, true_and]
  simp only [counted_iff y i]
  by_cases h₁ : ∃ j, y j = y i ∧ j ≠ i <;> by_cases h₂ : ∃ j, y j ≠ y i <;> simp [h₁, h₂, IntOp.andi]

/-- The count. -/
theorem count_eq : refCount (refValid T) = fun _ => BitVec.ofNat 32 (total y) := by
  funext j
  obtain rfl : j = ix0 := by funext a; exact a.elim0
  rw [refCount_apply]
  simp only [valid_eq T y hT hy]
  exact fold_add Finset.univ (Counted y)

/-- The loss, for masks beyond the distances. -/
theorem loss_eq (hX : ∀ i k, X (ix2 i k) = (x i k : EReal)) (lo hi : FVec Ideal S_ .f32) (hlo : lo ix0 ≤ (0 : EReal))
    (hhi : ∀ i j, (dist x i j : EReal) ≤ hi ix0) : refLoss lo hi X T = fun _ => lossVal x y := by
  have hf (i : Fin 4096) : refFar (andi (refSame T) refApart) (refDists (refNorms X) (refProducts X)) lo (ix1 i)
      = Finset.univ.sup fun j => if y j = y i ∧ j ≠ i then (dist x i j : EReal) else lo ix0 := by
    rw [refFar_apply]
    simp only [positive_eq T y hT hy, select_mark, dists_eq X x hX]
  have hn (i : Fin 4096) : refNear (noti (refSame T)) (refDists (refNorms X) (refProducts X)) hi (ix1 i)
      = Finset.univ.inf fun j => if y j = y i then hi ix0 else (dist x i j : EReal) := by
    rw [refNear_apply]
    simp only [negative_eq T y hT hy, select_mark, dists_eq X x hX, ne_eq, ite_not]
  funext j
  obtain rfl : j = ix0 := by funext a; exact a.elim0
  have h (s : FVec Ideal S_ .f32) (n : Vec Ideal S_ .i32) :
      Host.divf s (maximumf (sitofp .f32 n) (constant (F := Ideal) S_ .f32 0x3F800000#32)) ix0
        = Ideal.div (s ix0) (max (FloatOps.sitofp (F := Ideal) .f32 (n ix0)) 1) := by
    pointwise []
  unfold refLoss lossVal
  rw [h, count_eq T y hT hy, refSum_apply, Cert.KernelIdeal.Hand.sitofp_small _ (by have := total_le y; omega)]
  congr 1
  refine Finset.sum_congr rfl fun i _ => ?_
  rw [valid_eq T y hT hy, select_mark, hf, hn]
  unfold hinge
  by_cases hc : Counted y i
  · obtain ⟨h₁, h₂⟩ := (counted_iff y i).mp hc
    rw [if_pos hc, if_pos hc, far_masked x y i _ hlo h₁, near_masked x y i _ (hhi i) h₂]
  · rw [if_neg hc, if_neg hc]

end

end Cert.Triplet
-- ==== Proof.Agreement.lean ====
/- The kernel's two results over the extended reals, and the masks set against the distances. -/
module

public import proofs.«01_k».proof.Proof.Results
public import proofs.«01_k».proof.Proof.RefValue

@[expose] public section

set_option maxRecDepth 16384

noncomputable section

namespace Cert.KernelIdeal.Hand

open Cert.KernelIdeal Cert.KernelIdeal.Gen Cert.Triplet
open Idealize.ShloMosaic Idealize.ShloMosaic.TcCoe Idealize.SL.Sem

variable (m : (ℓ : Loc nD τ sig) → Buf (Elt Ideal) ℓ) (ρ : Dev nD → PrngReg)

/-- The embeddings as reals. -/
def rowsOf (c : Dev nD) (i : Fin 4096) (k : Fin 16) : ℝ :=
  EReal.toReal ((m ((c : Thread nD τ).loc main_arg0) : FVec Ideal S4096x16 .f32) (ix2 i k))

/-- The labels as numbers. -/
def labelsOf (c : Dev nD) (i : Fin 4096) : ℕ :=
  ((m ((c : Thread nD τ).loc main_arg1) : IVec S4096 32) (ix1 i)).toNat

/-- Every embedding is a finite number. -/
def Finite : Prop := ∀ (c : Dev nD) (i : Fin 4096) (k : Fin 16),
  (m ((c : Thread nD τ).loc main_arg0) : FVec Ideal S4096x16 .f32) (ix2 i k) ≠ (⊥ : EReal)
    ∧ (m ((c : Thread nD τ).loc main_arg0) : FVec Ideal S4096x16 .f32) (ix2 i k) ≠ (⊤ : EReal)

/-- Every label is from 0 to 255. -/
def Labelled : Prop := ∀ (c : Dev nD) (i : Fin 4096), labelsOf m c i < 256

theorem rows_eq (h : Finite m) (c : Dev nD) (i : Fin 4096) (k : Fin 16) :
    (m ((c : Thread nD τ).loc main_arg0) : FVec Ideal S4096x16 .f32) (ix2 i k) = (rowsOf m c i k : EReal) :=
  (EReal.coe_toReal (h c i k).2 (h c i k).1).symm

theorem labels_eq (c : Dev nD) (i : Fin 4096) :
    (m ((c : Thread nD τ).loc main_arg1) : IVec S4096 32) (ix1 i) = BitVec.ofNat 32 (labelsOf m c i) :=
  (BitVec.eq_of_toNat_eq (by rw [BitVec.toNat_ofNat]; exact Nat.mod_eq_of_lt (BitVec.isLt _))).symm

/-- A line laid along a row. -/
theorem row_apply (T : IVec S4096 32) (i : Fin 4096) :
    shapeCast S1x4096 T shapeCasts_S4096_S1x4096 (ix2 0 i) = T (ix1 i) := by
  pointwise []

theorem labelRow_apply (c : Dev nD) (i : Fin 4096) : labelRow m c (ix2 0 i) = BitVec.ofNat 32 (labelsOf m c i) := by
  rw [← labels_eq]
  exact row_apply _ i

/-- Every run ends with the triplet loss and the number of rows that count. -/
theorem run_values (hf : Finite m) (hl : Labelled m) :
    θ_run defs (onTc (τ := τ) (main (F := Ideal))) ⟨m, fun _ => 0, ρ⟩ (fun r => ∀ c : Dev nD,
      r.2.mem ((c : Thread nD τ).loc main_v2) = (fun _ => lossVal (rowsOf m c) (labelsOf m c))
      ∧ r.2.mem ((c : Thread nD τ).loc main_v3) = (fun _ => BitVec.ofNat 32 (total (labelsOf m c)))
      ∧ r.2.mem ((c : Thread nD τ).loc main_arg0) = m ((c : Thread nD τ).loc main_arg0)
      ∧ r.2.mem ((c : Thread nD τ).loc main_arg1) = m ((c : Thread nD τ).loc main_arg1)) := by
  refine (θ_run defs _ _).mono (fun _ h c => ⟨(h c).1.trans ?_, (h c).2.1.trans ?_, (h c).2.2⟩) (run_results m ρ)
  · rw [lossOf_eq _ _ (rowsOf m c) (labelsOf m c) (rows_eq m hf c) (labelRow_apply m c) (hl c)]
    rfl
  · rw [nOf_eq _ (labelsOf m c) (labelRow_apply m c) (hl c)]
    rfl

end Cert.KernelIdeal.Hand

namespace Cert.Triplet

open Idealize.ShloMosaic

/-- Rows within 3952 are no further apart than the mask. -/
theorem dist_le_mask (x : Fin 4096 → Fin 16 → ℝ) (h : ∀ i k, |x i k| ≤ 3952) (i j : Fin 4096) :
    (dist x i j : EReal) ≤ ((1000000000 : ℝ) : EReal) := by
  refine EReal.coe_le_coe_iff.mpr ?_
  rw [dist_eq]
  have hk (k : Fin 16) : (x i k - x j k) ^ 2 ≤ 62473216 := by
    obtain ⟨h₁, h₂⟩ := abs_le.mp (h i k)
    obtain ⟨h₃, h₄⟩ := abs_le.mp (h j k)
    nlinarith
  refine (Finset.sum_le_sum fun k _ => hk k).trans ?_
  rw [Finset.sum_const, Finset.card_univ, Fintype.card_fin]
  norm_num

theorem bits_low_mask : Ideal.ofBits .f32 0xCE6E6B28#32 = ((-1000000000 : ℝ) : EReal) := by
  simp [Ideal.ofBits, Ideal.ieee, -EReal.coe_mul, -EReal.coe_neg]; norm_num

theorem bits_high_mask : Ideal.ofBits .f32 0x4E6E6B28#32 = ((1000000000 : ℝ) : EReal) := by
  simp [Ideal.ofBits, Ideal.ieee, -EReal.coe_mul]; norm_num

end Cert.Triplet
-- ==== Proof.AtBits.lean ====
/-
  The kernel on words. The launch is proved once, over any reading of floats and any reading of the
  two named constants. Reading each named constant as the word it is written with gives back the
  kernel as it runs on words: here the two texts are compared piece by piece, and the frame carried
  from one to the other.
-/
module
public import proofs.«01_k».proof.Defs
public import proofs.«01_k».proof.Proof.Gen.Kernel
public import proofs.«01_k».proof.Proof.Launch
@[expose] public section
noncomputable section

namespace Cert.Proof

open Idealize.ShloMosaic Idealize.SL.Sem

instance : Cert.Kernel.Facts := Cert.Kernel.Gen.facts
instance : Cert.KernelIdeal.Facts := Cert.KernelIdeal.Gen.facts

/-- On words a named constant is its own word. -/
@[reducible] def ownBits : Named Bits where
  named _ _ φ bits := Scalar.ofBits φ bits

local instance : Named Bits := ownBits

set_option maxRecDepth 16384
set_option maxHeartbeats 1000000

/-- The host parts of the two texts agree. -/
theorem main_eq : Cert.KernelIdeal.main (F := Bits) = Cert.Kernel.main (F := Bits) := rfl

/-- The kernel functions of the two texts agree at every grid point and on every buffer. -/
theorem body_eq (i a₁ h₁ a₂ h₂ a₃ h₃ a₄ h₄ a₅ h₅ a₆ h₆ a₇ h₇ a₈ h₈) :
    Cert.KernelIdeal.cc0__triplet_tc_kernel (F := Bits)
        i a₁ h₁ a₂ h₂ a₃ h₃ a₄ h₄ a₅ h₅ a₆ h₆ a₇ h₇ a₈ h₈ =
      Cert.Kernel.cc0__triplet_tc_kernel (F := Bits)
        i a₁ h₁ a₂ h₂ a₃ h₃ a₄ h₄ a₅ h₅ a₆ h₆ a₇ h₇ a₈ h₈ := rfl

/-- Hence so do the tables of kernel bodies. -/
theorem bodies_eq : Cert.KernelIdeal.defs₀ (F := Bits) = Cert.Kernel.defs₀ (F := Bits) := by
  unfold Cert.KernelIdeal.defs₀ Cert.Kernel.defs₀
  refine congrArg Defs.onTc (funext fun l => ?_)
  match l with
  | 0 =>
    funext ⟨t, s⟩
    exact body_eq ..

/-- And the tables with the pipeline around them. -/
theorem defs_eq : Cert.KernelIdeal.defs (F := Bits) = Cert.Kernel.defs (F := Bits) := by
  unfold Cert.KernelIdeal.defs Cert.Kernel.defs
  exact congrArg (Pipeline.defs Cert.Kernel.pcfgs) bodies_eq

/-- The kernel on words ends, leaves its two operands as they were and leaves no semaphore raised. -/
theorem frame_on_words : Cert.quiescent_Kernel := by
  intro m g _
  have h := Cert.KernelIdeal.Hand.frame (F := Bits) m g
  rw [defs_eq, main_eq] at h
  exact h

end Cert.Proof
-- ==== Proof.Preconditions.lean ====
/- What the two preconditions say: finite embeddings, or embeddings within 3952, and labels from 0 to 255. -/
module

public import proofs.«01_k».proof.Proof.Gen.Pre_finite_and_labelled
public import proofs.«01_k».proof.Proof.Gen.Pre_bounded_and_labelled
public import proofs.«01_k».proof.Proof.ReadRows

@[expose] public section

set_option maxRecDepth 16384

noncomputable section

namespace Cert.Triplet

open Idealize.ShloMosaic

/-- A label word from 0 to 255. -/
theorem label_small (t : BitVec 32) (h : IntOp.andi (IntOp.cmpi .sge t 0#32) (IntOp.cmpi .slt t 256#32) = 1#1) :
    t.toNat < 256 := by
  have h0 : (0#32).sle t = true ∧ t.slt 256#32 = true := by
    simp only [IntOp.andi, IntOp.cmpi] at h
    cases e₁ : (0#32).sle t <;> cases e₂ : t.slt 256#32 <;> simp [e₁, e₂] at h ⊢
  rw [BitVec.sle_iff_toInt_le, BitVec.slt_iff_toInt_lt] at h0
  obtain ⟨h₁, h₂⟩ := h0
  have h₃ := BitVec.toInt_eq_toNat_cond t
  have h₄ : (0#32).toInt = 0 := rfl
  have h₅ : (256#32).toInt = 256 := rfl
  have := t.isLt
  split_ifs at h₃ <;> omega

theorem bits_3952 : Ideal.ofBits .f32 0x45770000#32 = ((3952 : ℝ) : EReal) := by
  simp [Ideal.ofBits, Ideal.ieee, -EReal.coe_mul]; norm_num

theorem ofBool_one {b : Bool} (h : BitVec.ofBool b = 1#1) : b = true := by
  cases b
  · exact absurd h (by decide)
  · rfl

/-- An absolute value below positive infinity is of a finite number. -/
theorem finite_of_abs (v : Ideal .f32)
    (h : FloatOps.absf (F := Ideal) (φ := .f32) v < Ideal.ofBits .f32 0x7F800000#32) : v ≠ (⊥ : EReal) ∧ v ≠ (⊤ : EReal) := by
  have h' : max (v : EReal) (-v) < ⊤ := lt_of_lt_of_eq h Cert.KernelIdeal.Hand.bits_highest
  constructor
  · rintro rfl
    exact absurd h' (by simp)
  · rintro rfl
    exact absurd h' (by simp)

/-- An absolute value of at most 3952 is of a number within 3952. -/
theorem bounded_of_abs (v : Ideal .f32)
    (h : FloatOps.absf (F := Ideal) (φ := .f32) v ≤ Ideal.ofBits .f32 0x45770000#32) :
    v ≠ (⊥ : EReal) ∧ v ≠ (⊤ : EReal) ∧ |EReal.toReal v| ≤ 3952 := by
  have h' : max (v : EReal) (-v) ≤ ((3952 : ℝ) : EReal) := le_of_le_of_eq h bits_3952
  have hf := finite_of_abs v (lt_of_le_of_lt h (by
    rw [bits_3952, Cert.KernelIdeal.Hand.bits_highest]; exact EReal.coe_lt_top _))
  refine ⟨hf.1, hf.2, ?_⟩
  have hv : ((EReal.toReal v : ℝ) : EReal) = v := EReal.coe_toReal hf.2 hf.1
  rw [← hv] at h'
  obtain ⟨h₁, h₂⟩ := max_le_iff.mp h'
  rw [← EReal.coe_neg] at h₂
  exact abs_le'.mpr ⟨EReal.coe_le_coe_iff.mp h₁, EReal.coe_le_coe_iff.mp h₂⟩

section Finite
open Cert.Pre_finite_and_labelled Cert.Pre_finite_and_labelled.Gen

variable (X : FVec Ideal S4096x16 .f32) (T : IVec S4096 32)

theorem finite_of_pre (h : (fn (F := Ideal) X T).1 = fun _ => 1#1) (i : Fin 4096) (k : Fin 16) :
    X (ix2 i k) ≠ ⊥ ∧ X (ix2 i k) ≠ ⊤ := by
  have e : (fn (F := Ideal) X T).1 (ix2 i k) = 1#1 := congrFun h _
  have e' : (fn (F := Ideal) X T).1 (ix2 i k) = BitVec.ofBool (decide
      (FloatOps.absf (F := Ideal) (φ := .f32) (X (ix2 i k)) < Ideal.ofBits .f32 0x7F800000#32)) := by
    pointwise [fn]
  rw [e'] at e
  exact finite_of_abs _ (of_decide_eq_true (ofBool_one e))

theorem labelled_of_pre (h : (fn (F := Ideal) X T).2 = fun _ => 1#1) (i : Fin 4096) : (T (ix1 i)).toNat < 256 := by
  refine label_small _ (Eq.trans ?_ (congrFun h (ix1 i)))
  symm
  pointwise [fn]

end Finite

section Bounded
open Cert.Pre_bounded_and_labelled Cert.Pre_bounded_and_labelled.Gen

variable (X : FVec Ideal S4096x16 .f32) (T : IVec S4096 32)

theorem bounded_of_pre (h : (fn (F := Ideal) X T).1 = fun _ => 1#1) (i : Fin 4096) (k : Fin 16) :
    X (ix2 i k) ≠ ⊥ ∧ X (ix2 i k) ≠ ⊤ ∧ |EReal.toReal (X (ix2 i k))| ≤ 3952 := by
  have e : (fn (F := Ideal) X T).1 (ix2 i k) = 1#1 := congrFun h _
  have e' : (fn (F := Ideal) X T).1 (ix2 i k) = BitVec.ofBool (decide
      (FloatOps.absf (F := Ideal) (φ := .f32) (X (ix2 i k)) ≤ Ideal.ofBits .f32 0x45770000#32)) := by
    pointwise [fn]
  rw [e'] at e
  exact bounded_of_abs _ (of_decide_eq_true (ofBool_one e))

theorem labelled_of_bounded (h : (fn (F := Ideal) X T).2 = fun _ => 1#1) (i : Fin 4096) : (T (ix1 i)).toNat < 256 := by
  refine label_small _ (Eq.trans ?_ (congrFun h (ix1 i)))
  symm
  pointwise [fn]

end Bounded

end Cert.Triplet
-- ==== Proof.RunReference.lean ====
/- The reference: its run, its results as the terms the value proofs read, its frame. -/
module

public import proofs.«01_k».proof.Proof.RefValue
public import proofs.«01_k».proof.Proof.Gen.ReferenceIdeal.Run

@[expose] public section

set_option maxRecDepth 16384

noncomputable section

namespace Cert.ReferenceIdeal.Hand

open Cert.ReferenceIdeal Cert.Triplet
open Idealize.ShloMosaic Idealize.ShloMosaic.TcCoe Idealize.SL.Sem

variable (m : (ℓ : Loc nD τ sig) → Buf (Elt Ideal) ℓ) (ρ : Dev nD → PrngReg)

/-- The loss as the run leaves it is the loss term at this program's masks. -/
theorem res_eq (c : Dev nD) : Value.res_main_v45 m c
    = refLoss (constant (F := Ideal) S_ .f32 0xCE6E6B28#32) (constant (F := Ideal) S_ .f32 0x4E6E6B28#32)
      (m ((c : Thread nD τ).loc main_arg0)) (m ((c : Thread nD τ).loc main_arg1)) := by
  unfold Value.res_main_v45; rfl

/-- Every run ends with the loss term and the count term of the arguments, and the arguments as they were. -/
theorem run_results : θ_run defs (onTc (τ := τ) (main (F := Ideal))) ⟨m, fun _ => 0, ρ⟩ (fun r => ∀ c : Dev nD,
      r.2.mem ((c : Thread nD τ).loc main_v45)
        = refLoss (constant (F := Ideal) S_ .f32 0xCE6E6B28#32) (constant (F := Ideal) S_ .f32 0x4E6E6B28#32)
            (m ((c : Thread nD τ).loc main_arg0)) (m ((c : Thread nD τ).loc main_arg1))
      ∧ r.2.mem ((c : Thread nD τ).loc main_v41) = refCount (refValid (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (res_eq m c), (h c).2.1, (h c).2.2⟩) (Value.run m ρ)

/-- The arguments end as they were, and every semaphore at zero: the program has none. -/
theorem frame : θ_run defs (onTc (τ := τ) (main (F := Ideal))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun r h => ⟨fun c => (h c).2.2, sem_eq_zero_of_no_sems (by decide) r.2⟩) (Value.run m ρ)

end Cert.ReferenceIdeal.Hand
-- ==== Proof.RunUnmasked.lean ====
/- The reference with infinite masks: its run, its results as the terms the value proofs read, its frame. -/
module

public import proofs.«01_k».proof.Proof.RefValue
public import proofs.«01_k».proof.Proof.Gen.UnmaskedIdeal.Run

@[expose] public section

set_option maxRecDepth 16384

noncomputable section

namespace Cert.UnmaskedIdeal.Hand

open Cert.UnmaskedIdeal Cert.Triplet
open Idealize.ShloMosaic Idealize.ShloMosaic.TcCoe Idealize.SL.Sem

variable (m : (ℓ : Loc nD τ sig) → Buf (Elt Ideal) ℓ) (ρ : Dev nD → PrngReg)

/-- The loss as the run leaves it is the loss term at this program's masks. -/
theorem res_eq (c : Dev nD) : Value.res_main_v45 m c
    = refLoss (constant (F := Ideal) S_ .f32 0xFF800000#32) (constant (F := Ideal) S_ .f32 0x7F800000#32)
      (m ((c : Thread nD τ).loc main_arg0)) (m ((c : Thread nD τ).loc main_arg1)) := by
  unfold Value.res_main_v45; rfl

/-- Every run ends with the loss term and the count term of the arguments, and the arguments as they were. -/
theorem run_results : θ_run defs (onTc (τ := τ) (main (F := Ideal))) ⟨m, fun _ => 0, ρ⟩ (fun r => ∀ c : Dev nD,
      r.2.mem ((c : Thread nD τ).loc main_v45)
        = refLoss (constant (F := Ideal) S_ .f32 0xFF800000#32) (constant (F := Ideal) S_ .f32 0x7F800000#32)
            (m ((c : Thread nD τ).loc main_arg0)) (m ((c : Thread nD τ).loc main_arg1))
      ∧ r.2.mem ((c : Thread nD τ).loc main_v41) = refCount (refValid (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1)) :=
  (θ_run defs _ _).mono (fun _ h c => ⟨(h c).1.trans (res_eq m c), (h c).2.1, (h c).2.2⟩) (Value.run m ρ)

/-- The arguments end as they were, and every semaphore at zero: the program has none. -/
theorem frame : θ_run defs (onTc (τ := τ) (main (F := Ideal))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0) :=
  (θ_run defs _ _).mono (fun r h => ⟨fun c => (h c).2.2, sem_eq_zero_of_no_sems (by decide) r.2⟩) (Value.run m ρ)

end Cert.UnmaskedIdeal.Hand
-- ==== Proof.lean ====
/- The proof of the certificate's claim: the frames of the two kernels and the two references, the two named
   constants, and the agreement of the idealized kernel with each reference over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.UnmaskedIdeal
public import proofs.«01_k».proof.Proof.Gen.UnmaskedIdeal.Run
public import proofs.«01_k».proof.Proof.Gen.Pre_finite_and_labelled
public import proofs.«01_k».proof.Proof.Gen.Pre_bounded_and_labelled
public import proofs.«01_k».proof.Proof.Agreement
public import proofs.«01_k».proof.Proof.AtBits
public import proofs.«01_k».proof.Proof.Preconditions
public import proofs.«01_k».proof.Proof.RunReference
public import proofs.«01_k».proof.Proof.RunUnmasked

@[expose] public section

noncomputable section

namespace Cert.Proof

open Idealize.ShloMosaic Idealize.SL.Sem
open Cert.KernelIdeal.Hand Cert.Triplet

/-- The two constants the kernel names are the least and the greatest of the extended reals. -/
theorem preserves : Cert.preserves_Kernel_KernelIdeal :=
  ⟨IdealRules.named_const.statement _ _ _ _ _ rfl, IdealRules.named_const.statement _ _ _ _ _ rfl⟩

/-- With infinite masks the kernel and the reference agree at finite embeddings. -/
theorem agrees_unmasked : Cert.algebraic_KernelIdeal_UnmaskedIdeal_pre_finite_and_labelled := by
  intro m g m' g' hpre hargs
  have hf : Finite m := fun c i k => finite_of_pre _ _ (hpre c).1 i k
  have hl : Labelled m := fun c i => labelled_of_pre _ _ (hpre c).2 i
  refine ⟨_, _, run_values m g hf hl, (θ_run _ _ _).mono (fun _ h c => ?_) (Cert.UnmaskedIdeal.Hand.run_results m' g')⟩
  obtain ⟨h₁, h₂, h₃⟩ := h c
  rw [(hargs c).1, (hargs c).2] at h₁
  rw [(hargs c).2] at h₂
  refine ⟨h₁.trans ?_, h₂.trans ?_, h₃⟩
  · refine loss_eq _ _ _ _ (labels_eq m c) (hl c) (rows_eq m hf c) _ _ ?_ fun i j => ?_
    · exact le_of_eq_of_le bits_bot bot_le
    · exact le_of_le_of_eq le_top bits_top.symm
  · exact count_eq _ _ (labels_eq m c) (hl c)

/-- With the masks of plus and minus 1e9 they agree at embeddings within 3952. -/
theorem agrees_reference : Cert.algebraic_KernelIdeal_ReferenceIdeal_pre_bounded_and_labelled := by
  intro m g m' g' hpre hargs
  have hb (c i k) := bounded_of_pre _ _ (hpre c).1 i k
  have hf : Finite m := fun c i k => ⟨(hb c i k).1, (hb c i k).2.1⟩
  have hl : Labelled m := fun c i => labelled_of_bounded _ _ (hpre c).2 i
  refine ⟨_, _, run_values m g hf hl, (θ_run _ _ _).mono (fun _ h c => ?_) (Cert.ReferenceIdeal.Hand.run_results m' g')⟩
  obtain ⟨h₁, h₂, h₃⟩ := h c
  rw [(hargs c).1, (hargs c).2] at h₁
  rw [(hargs c).2] at h₂
  refine ⟨h₁.trans ?_, h₂.trans ?_, h₃⟩
  · refine loss_eq _ _ _ _ (labels_eq m c) (hl c) (rows_eq m hf c) _ _ ?_ fun i j => ?_
    · exact le_of_eq_of_le bits_low_mask (EReal.coe_nonpos.mpr (by norm_num))
    · exact le_of_le_of_eq (dist_le_mask (rowsOf m c) (fun i k => (hb c i k).2.2) i j) bits_high_mask.symm
  · exact count_eq _ _ (labels_eq m c) (hl c)

/-- Everything the certificate claims. -/
theorem claim : Cert.Claim :=
  ⟨Cert.Kernel.Gen.facts, Cert.KernelIdeal.Gen.facts, Cert.ReferenceIdeal.Gen.facts, Cert.UnmaskedIdeal.Gen.facts,
    Cert.Pre_finite_and_labelled.Gen.facts, Cert.Pre_bounded_and_labelled.Gen.facts,
    frame_on_words, fun m g _ => Cert.KernelIdeal.Hand.frame m g,
    fun m g _ => Cert.KernelIdeal.Hand.frame m g, fun m g _ => Cert.KernelIdeal.Hand.frame m g,
    fun m g _ => Cert.ReferenceIdeal.Hand.frame m g, fun m g _ => Cert.ReferenceIdeal.Hand.frame m g,
    fun m g _ => Cert.UnmaskedIdeal.Hand.frame m g, fun m g _ => Cert.UnmaskedIdeal.Hand.frame m g,
    preserves, agrees_unmasked, agrees_reference⟩

end Cert.Proof

end
